-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)) (v3 : (c : Dev Cert.Kernel11Ideal.nD) → Buf (Elt Ideal) ((c.tc : Thread Cert.Kernel11Ideal.nD Cert.Kernel11Ideal.τ).loc Cert.Kernel11Ideal.main_v8_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_v8_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_v42) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v23) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v37) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v5) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v0) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v5) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_v0) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel9 : Cert.Kernel9.Facts) (hKernel9Ideal : Cert.Kernel9Ideal.Facts) (hReference9Ideal : Cert.Reference9Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel9_Kernel9Ideal
    ∧ algebraic_Kernel9Ideal_Reference9Ideal (hKernel9Ideal := hKernel9Ideal) (hReference9Ideal := hReference9Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite3.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S3x5632 .f32) (main_arg2 : FVec F S5632 .f32) (main_arg3 : FVec F S2816x1024 .f32) (main_arg4 : FVec F S4096x1024 .f32) : IVec S4096x5632 1 × IVec S3x5632 1 × IVec S5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S1x4096x4096 : Shape := ⟨3, ![1, 4096, 4096]⟩
abbrev S8x1024 : Shape := ⟨2, ![8, 1024]⟩
abbrev S512x1024 : Shape := ⟨2, ![512, 1024]⟩
abbrev S1x512x4096 : Shape := ⟨3, ![1, 512, 4096]⟩
abbrev S512 : Shape := ⟨1, ![512]⟩
abbrev S512x1 : Shape := ⟨2, ![512, 1]⟩
abbrev S1x512x1024 : Shape := ⟨3, ![1, 512, 1024]⟩
abbrev S1x1024x1024 : Shape := ⟨3, ![1, 1024, 1024]⟩
abbrev S1024x1024 : Shape := ⟨2, ![1024, 1024]⟩
abbrev S64x8x1024 : Shape := ⟨3, ![64, 8, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x1024, .f32⟩
  | .hbm, ⟨9, _⟩ => ⟨S1x4096x4096, .f32⟩
  | .hbm, ⟨10, _⟩ => ⟨S1x4096x4096, .bf16⟩
  | .hbm, ⟨11, _⟩ => ⟨S4096x1024, .f32⟩
  | .hbm, ⟨12, _⟩ => ⟨S8x1024, .f32⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x4096, .bf16⟩
  | .local _ .vmem, ⟨6, _⟩ => ⟨S1x512x4096, .bf16⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S8x1024 : Shape := ⟨2, ![8, 1024]⟩
abbrev S_ : Shape := ⟨0, ![]⟩
abbrev S4096 : Shape := ⟨1, ![4096]⟩
abbrev S4096x1 : Shape := ⟨2, ![4096, 1]⟩
abbrev S1x8x1024 : Shape := ⟨3, ![1, 8, 1024]⟩
abbrev S512x8x1024 : Shape := ⟨3, ![512, 8, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x8x1024, .f32⟩
  | .hbm, ⟨27, _⟩ => ⟨S512x8x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1x8x1024, .f32⟩
  | .hbm, ⟨34, _⟩ => ⟨S512x8x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S4096x1024, .f32⟩
  | .hbm, ⟨39, _⟩ => ⟨S512x8x1024, .f32⟩
  | .hbm, ⟨40, _⟩ => ⟨S_, .f32⟩
  | .hbm, ⟨41, _⟩ => ⟨S8x1024, .f32⟩
  | .hbm, ⟨42, _⟩ => ⟨S1x8x1024, .f32⟩
  | .hbm, ⟨43, _⟩ => ⟨S_, .f32⟩
  | .hbm, ⟨44, _⟩ => ⟨S8x1024, .f32⟩
  | .hbm, ⟨45, _⟩ => ⟨S4096x1024, .f32⟩
  | .hbm, ⟨46, _⟩ => ⟨S4096x1024, .f32⟩
  | .hbm, ⟨47, _⟩ => ⟨S512x8x1024, .f32⟩
  | .hbm, ⟨48, _⟩ => ⟨S_, .f32⟩
  | .hbm, ⟨49, _⟩ => ⟨S8x1024, .f32⟩
  | .hbm, ⟨50, _⟩ => ⟨S1x8x1024, .f32⟩
  | .hbm, ⟨51, _⟩ => ⟨S_, .f32⟩
  | .hbm, ⟨52, _⟩ => ⟨S8x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S4096x2x2816 : Shape := ⟨3, ![4096, 2, 2816]⟩
abbrev S2x4096x2816 : Shape := ⟨3, ![2, 4096, 2816]⟩
abbrev S1x1024 : Shape := ⟨2, ![1, 1024]⟩
abbrev S8x1024 : Shape := ⟨2, ![8, 1024]⟩
abbrev S1x4096x1024 : Shape := ⟨3, ![1, 4096, 1024]⟩
abbrev S512x1024 : Shape := ⟨2, ![512, 1024]⟩
abbrev S2x512x2816 : Shape := ⟨3, ![2, 512, 2816]⟩
abbrev S1x512x1024 : Shape := ⟨3, ![1, 512, 1024]⟩
abbrev S512 : Shape := ⟨1, ![512]⟩
abbrev S512x1 : Shape := ⟨2, ![512, 1]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S64x8x1024 : Shape := ⟨3, ![64, 8, 1024]⟩

abbrev nBuf : Space → Nat
  | .hbm => 24
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x5632, .f32⟩
  | .hbm, ⟨6, _⟩ => ⟨S4096x1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S4096x2x2816, .f32⟩
  | .hbm, ⟨11, _⟩ => ⟨S2x4096x2816, .f32⟩
  | .hbm, ⟨12, _⟩ => ⟨S2x4096x2816, .bf16⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S8x1024, .f32⟩
  | .hbm, ⟨21, _⟩ => ⟨S8x1024, .f32⟩
  | .hbm, ⟨22, _⟩ => ⟨S1x4096x1024, .bf16⟩
  | .hbm, ⟨23, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2x512x2816, .bf16⟩
  | .local _ .vmem, ⟨6, _⟩ => ⟨S2x512x2816, .bf16⟩
  | .local _ .vmem, ⟨7, _⟩ => ⟨S4x1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1x1024 : Shape := ⟨2, ![1, 1024]⟩
abbrev S8x1024 : Shape := ⟨2, ![8, 1024]⟩
abbrev S_ : Shape := ⟨0, ![]⟩
abbrev S1x8x1024 : Shape := ⟨3, ![1, 8, 1024]⟩
abbrev S512x8x1024 : Shape := ⟨3, ![512, 8, 1024]⟩
abbrev S4096 : Shape := ⟨1, ![4096]⟩
abbrev S4096x1 : Shape := ⟨2, ![4096, 1]⟩
abbrev S1x4096x1024 : Shape := ⟨3, ![1, 4096, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x5632, .f32⟩
  | .hbm, ⟨6, _⟩ => ⟨S4096x1024, .f32⟩
  | .hbm, ⟨7, _⟩ => ⟨S1x1024, .f32⟩
  | .hbm, ⟨8, _⟩ => ⟨S8x1024, .f32⟩
  | .hbm, ⟨9, _⟩ => ⟨S1x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S1x8x1024, .f32⟩
  | .hbm, ⟨14, _⟩ => ⟨S512x8x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x8x1024, .f32⟩
  | .hbm, ⟨36, _⟩ => ⟨S512x8x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x8x1024, .f32⟩
  | .hbm, ⟨43, _⟩ => ⟨S512x8x1024, .f32⟩
  | .hbm, ⟨44, _⟩ => ⟨S4096x1024, .f32⟩
  | .hbm, ⟨45, _⟩ => ⟨S4096x1024, .f32⟩
  | .hbm, ⟨46, _⟩ => ⟨S4096x5632, .f32⟩
  | .hbm, ⟨47, _⟩ => ⟨S4096x1024, .f32⟩
  | .hbm, ⟨48, _⟩ => ⟨S512x8x1024, .f32⟩
  | .hbm, ⟨49, _⟩ => ⟨S_, .f32⟩
  | .hbm, ⟨50, _⟩ => ⟨S8x1024, .f32⟩
  | .hbm, ⟨51, _⟩ => ⟨S1x8x1024, .f32⟩
  | .hbm, ⟨52, _⟩ => ⟨S_, .f32⟩
  | .hbm, ⟨53, _⟩ => ⟨S8x1024, .f32⟩
  | .hbm, ⟨54, _⟩ => ⟨S4096x1024, .f32⟩
  | .hbm, ⟨55, _⟩ => ⟨S4096x1024, .f32⟩
  | .hbm, ⟨56, _⟩ => ⟨S512x8x1024, .f32⟩
  | .hbm, ⟨57, _⟩ => ⟨S_, .f32⟩
  | .hbm, ⟨58, _⟩ => ⟨S8x1024, .f32⟩
  | .hbm, ⟨59, _⟩ => ⟨S1x8x1024, .f32⟩
  | .hbm, ⟨60, _⟩ => ⟨S_, .f32⟩
  | .hbm, ⟨61, _⟩ => ⟨S8x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S512x8x1024, .f32⟩
  | .hbm, ⟨84, _⟩ => ⟨S_, .f32⟩
  | .hbm, ⟨85, _⟩ => ⟨S8x1024, .f32⟩
  | .hbm, ⟨86, _⟩ => ⟨S1x8x1024, .f32⟩
  | .hbm, ⟨87, _⟩ => ⟨S_, .f32⟩
  | .hbm, ⟨88, _⟩ => ⟨S8x1024, .f32⟩
  | .hbm, ⟨89, _⟩ => ⟨S1x4096x1024, .f32⟩
  | .hbm, ⟨90, _⟩ => ⟨S1x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel3.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S_ : Shape := ⟨0, ![]⟩
abbrev S4095x5632 : Shape := ⟨2, ![4095, 5632]⟩
abbrev S2x5632 : Shape := ⟨2, ![2, 5632]⟩
abbrev S4094x5632 : Shape := ⟨2, ![4094, 5632]⟩
abbrev S4096x2x2816 : Shape := ⟨3, ![4096, 2, 2816]⟩
abbrev S2x4096x2816 : Shape := ⟨3, ![2, 4096, 2816]⟩
abbrev S1x4096x1024 : Shape := ⟨3, ![1, 4096, 1024]⟩
abbrev S1x2816x1024 : Shape := ⟨3, ![1, 2816, 1024]⟩
abbrev S3x2x2816 : Shape := ⟨3, ![3, 2, 2816]⟩
abbrev S2x3x2816 : Shape := ⟨3, ![2, 3, 2816]⟩
abbrev S2x4x8x2816 : Shape := ⟨4, ![2, 4, 8, 2816]⟩
abbrev S2x256x1408 : Shape := ⟨3, ![2, 256, 1408]⟩
abbrev S2x16x1408 : Shape := ⟨3, ![2, 16, 1408]⟩
abbrev S1x256x1024 : Shape := ⟨3, ![1, 256, 1024]⟩
abbrev S1x16x1024 : Shape := ⟨3, ![1, 16, 1024]⟩
abbrev S1x1408x1024 : Shape := ⟨3, ![1, 1408, 1024]⟩
abbrev S2x3x1408 : Shape := ⟨3, ![2, 3, 1408]⟩
abbrev S2x4x8x1408 : Shape := ⟨4, ![2, 4, 8, 1408]⟩
abbrev S1x256x1408 : Shape := ⟨3, ![1, 256, 1408]⟩
abbrev S256x1408 : Shape := ⟨2, ![256, 1408]⟩
abbrev S1x16x1408 : Shape := ⟨3, ![1, 16, 1408]⟩
abbrev S16x1408 : Shape := ⟨2, ![16, 1408]⟩
abbrev S272x1408 : Shape := ⟨2, ![272, 1408]⟩
abbrev S1408x1024 : Shape := ⟨2, ![1408, 1024]⟩
abbrev S256x1024 : Shape := ⟨2, ![256, 1024]⟩
abbrev S16x1024 : Shape := ⟨2, ![16, 1024]⟩
abbrev S1x3x1408 : Shape := ⟨3, ![1, 3, 1408]⟩
abbrev S3x1408 : Shape := ⟨2, ![3, 1408]⟩
abbrev S1x1408 : Shape := ⟨2, ![1, 1408]⟩
abbrev S1x1x8x1408 : Shape := ⟨4, ![1, 1, 8, 1408]⟩
abbrev S8x1408 : Shape := ⟨2, ![8, 1408]⟩
abbrev S32x8x1408 : Shape := ⟨3, ![32, 8, 1408]⟩

abbrev nBuf : Space → Nat
  | .hbm => 47
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4096x1024, .f32⟩
  | .hbm, ⟨5, _⟩ => ⟨S1x5632, .f32⟩
  | .hbm, ⟨6, _⟩ => ⟨S5632, .f32⟩
  | .hbm, ⟨7, _⟩ => ⟨S1x5632, .f32⟩
  | .hbm, ⟨8, _⟩ => ⟨S4096x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S_, .f32⟩
  | .hbm, ⟨13, _⟩ => ⟨S1x5632, .f32⟩
  | .hbm, ⟨14, _⟩ => ⟨S4095x5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S_, .f32⟩
  | .hbm, ⟨23, _⟩ => ⟨S2x5632, .f32⟩
  | .hbm, ⟨24, _⟩ => ⟨S4094x5632, .f32⟩
  | .hbm, ⟨25, _⟩ => ⟨S4096x5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x2x2816, .f32⟩
  | .hbm, ⟨34, _⟩ => ⟨S2x4096x2816, .f32⟩
  | .hbm, ⟨35, _⟩ => ⟨S2x4096x2816, .bf16⟩
  | .hbm, ⟨36, _⟩ => ⟨S4096x2x2816, .f32⟩
  | .hbm, ⟨37, _⟩ => ⟨S2x4096x2816, .f32⟩
  | .hbm, ⟨38, _⟩ => ⟨S2x4096x2816, .bf16⟩
  | .hbm, ⟨39, _⟩ => ⟨S1x4096x1024, .f32⟩
  | .hbm, ⟨40, _⟩ => ⟨S1x4096x1024, .bf16⟩
  | .hbm, ⟨41, _⟩ => ⟨S1x2816x1024, .f32⟩
  | .hbm, ⟨42, _⟩ => ⟨S1x2816x1024, .bf16⟩
  | .hbm, ⟨43, _⟩ => ⟨S3x2x2816, .f32⟩
  | .hbm, ⟨44, _⟩ => ⟨S2x3x2816, .f32⟩
  | .hbm, ⟨45, _⟩ => ⟨S2x4096x2816, .bf16⟩
  | .hbm, ⟨46, _⟩ => ⟨S2x4x8x2816, .f32⟩
  | .local _ .vmem, ⟨0, _⟩ => ⟨S2x256x1408, .bf16⟩
  | .local _ .vmem, ⟨1, _⟩ => ⟨S2x256x1408, .bf16⟩
  | .local _ .vmem, ⟨2, _⟩ => ⟨S2x256x1408, .bf16⟩
  | .local _ .vmem, ⟨3, _⟩ => ⟨S2x256x1408, .bf16⟩
  | .local _ .vmem, ⟨4, _⟩ => ⟨S2x16x1408, .bf16⟩
  | .local _ .vmem, ⟨5, _⟩ => ⟨S2x16x1408, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S2x3x1408, .f32⟩
  | .local _ .vmem, ⟨13, _⟩ => ⟨S2x3x1408, .f32⟩
  | .local _ .vmem, ⟨14, _⟩ => ⟨S2x256x1408, .bf16⟩
  | .local _ .vmem, ⟨15, _⟩ => ⟨S2x256x1408, .bf16⟩
  | .local _ .vmem, ⟨16, _⟩ => ⟨S2x4x8x1408, .f32⟩
  | .local _ .vmem, ⟨17, _⟩ => ⟨S2x4x8x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S2x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x4x8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S8x5632 : Shape := ⟨2, ![8, 5632]⟩
abbrev S1x8x5632 : Shape := ⟨3, ![1, 8, 5632]⟩
abbrev S512x8x5632 : Shape := ⟨3, ![512, 8, 5632]⟩
abbrev S_ : Shape := ⟨0, ![]⟩
abbrev S4095x5632 : Shape := ⟨2, ![4095, 5632]⟩
abbrev S2x5632 : Shape := ⟨2, ![2, 5632]⟩
abbrev S4094x5632 : Shape := ⟨2, ![4094, 5632]⟩
abbrev S4096x2816 : Shape := ⟨2, ![4096, 2816]⟩
abbrev S4096x2x2816 : Shape := ⟨3, ![4096, 2, 2816]⟩
abbrev S2x4096x2816 : Shape := ⟨3, ![2, 4096, 2816]⟩
abbrev S8x2x2816 : Shape := ⟨3, ![8, 2, 2816]⟩
abbrev S2x8x2816 : Shape := ⟨3, ![2, 8, 2816]⟩
abbrev S2x1x8x2816 : Shape := ⟨4, ![2, 1, 8, 2816]⟩
abbrev S2x4x8x2816 : Shape := ⟨4, ![2, 4, 8, 2816]⟩

abbrev nBuf : Space → Nat
  | .hbm => 130
  | .vmem => 0
  | .smem => 0
  | _ => 0

abbrev hbmTy0_0 (i : Nat) : BufTy := match i % 128 with
  | 0 => ⟨S4096x5632, .f32⟩
  | 1 => ⟨S3x5632, .f32⟩
  | 2 => ⟨S5632, .f32⟩
  | 3 => ⟨S2816x1024, .f32⟩
  | 4 => ⟨S4096x1024, .f32⟩
  | 5 => ⟨S1x5632, .f32⟩
  | 6 => ⟨S5632, .f32⟩
  | 7 => ⟨S1x5632, .f32⟩
  | 8 => ⟨S5632, .f32⟩
  | 9 => ⟨S1x5632, .f32⟩
  | 10 => ⟨S5632, .f32⟩
  | 11 => ⟨S1x5632, .f32⟩
  | 12 => ⟨S8x5632, .f32⟩
  | 13 => ⟨S1x5632, .f32⟩
  | 14 => ⟨S8x5632, .f32⟩
  | 15 => ⟨S1x5632, .f32⟩
  | 16 => ⟨S8x5632, .f32⟩
  | 17 => ⟨S1x5632, .f32⟩
  | 18 => ⟨S8x5632, .f32⟩
  | 19 => ⟨S1x8x5632, .f32⟩
  | 20 => ⟨S512x8x5632, .f32⟩
  | 21 => ⟨S4096x5632, .f32⟩
  | 22 => ⟨S4096x5632, .f32⟩
  | 23 => ⟨S1x8x5632, .f32⟩
  | 24 => ⟨S512x8x5632, .f32⟩
  | 25 => ⟨S4096x5632, .f32⟩
  | 26 => ⟨S4096x5632, .f32⟩
  | 27 => ⟨S_, .f32⟩
  | 28 => ⟨S1x5632, .f32⟩
  | 29 => ⟨S4095x5632, .f32⟩
  | 30 => ⟨S4096x5632, .f32⟩
  | 31 => ⟨S_, .f32⟩
  | 32 => ⟨S1x5632, .f32⟩
  | 33 => ⟨S4096x5632, .f32⟩
  | 34 => ⟨S1x8x5632, .f32⟩
  | 35 => ⟨S512x8x5632, .f32⟩
  | 36 => ⟨S4096x5632, .f32⟩
  | 37 => ⟨S4096x5632, .f32⟩
  | 38 => ⟨S_, .f32⟩
  | 39 => ⟨S2x5632, .f32⟩
  | 40 => ⟨S4094x5632, .f32⟩
  | 41 => ⟨S4096x5632, .f32⟩
  | 42 => ⟨S_, .f32⟩
  | 43 => ⟨S2x5632, .f32⟩
  | 44 => ⟨S4096x5632, .f32⟩
  | 45 => ⟨S1x8x5632, .f32⟩
  | 46 => ⟨S512x8x5632, .f32⟩
  | 47 => ⟨S4096x5632, .f32⟩
  | 48 => ⟨S4096x5632, .f32⟩
  | 49 => ⟨S4096x2816, .f32⟩
  | 50 => ⟨S4096x2816, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S4096x2816, .f32⟩
  | 63 => ⟨S4096x2816, .f32⟩
  | 64 => ⟨S4096x2816, .f32⟩
  | 65 => ⟨S4096x1024, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x2816, .f32⟩
  | 72 => ⟨S4096x2816, .f32⟩
  | 73 => ⟨S4096x5632, .f32⟩
  | 74 => ⟨S512x8x5632, .f32⟩
  | 75 => ⟨S_, .f32⟩
  | 76 => ⟨S8x5632, .f32⟩
  | 77 => ⟨S1x8x5632, .f32⟩
  | 78 => ⟨S_, .f32⟩
  | 79 => ⟨S8x5632, .f32⟩
  | 80 => ⟨S2x5632, .f32⟩
  | 81 => ⟨S4094x5632, .f32⟩
  | 82 => ⟨S_, .f32⟩
  | 83 => ⟨S4096x5632, .f32⟩
  | 84 => ⟨S4096x5632, .f32⟩
  | 85 => ⟨S4096x5632, .f32⟩
  | 86 => ⟨S512x8x5632, .f32⟩
  | 87 => ⟨S_, .f32⟩
  | 88 => ⟨S8x5632, .f32⟩
  | 89 => ⟨S1x8x5632, .f32⟩
  | 90 => ⟨S_, .f32⟩
  | 91 => ⟨S8x5632, .f32⟩
  | 92 => ⟨S1x5632, .f32⟩
  | 93 => ⟨S4095x5632, .f32⟩
  | 94 => ⟨S_, .f32⟩
  | 95 => ⟨S4096x5632, .f32⟩
  | 96 => ⟨S4096x5632, .f32⟩
  | 97 => ⟨S4096x5632, .f32⟩
  | 98 => ⟨S4096x5632, .f32⟩
  | 99 => ⟨S512x8x5632, .f32⟩
  | 100 => ⟨S_, .f32⟩
  | 101 => ⟨S8x5632, .f32⟩
  | 102 => ⟨S1x8x5632, .f32⟩
  | 103 => ⟨S_, .f32⟩
  | 104 => ⟨S8x5632, .f32⟩
  | 105 => ⟨S4096x5632, .f32⟩
  | 106 => ⟨S4096x5632, .f32⟩
  | 107 => ⟨S4096x5632, .f32⟩
  | 108 => ⟨S512x8x5632, .f32⟩
  | 109 => ⟨S_, .f32⟩
  | 110 => ⟨S8x5632, .f32⟩
  | 111 => ⟨S1x8x5632, .f32⟩
  | 112 => ⟨S_, .f32⟩
  | 113 => ⟨S8x5632, .f32⟩
  | 114 => ⟨S4096x2x2816, .f32⟩
  | 115 => ⟨S2x4096x2816, .f32⟩
  | 116 => ⟨S2x4096x2816, .bf16⟩
  | 117 => ⟨S8x2x2816, .f32⟩
  | 118 => ⟨S2x8x2816, .f32⟩
  | 119 => ⟨S8x2x2816, .f32⟩
  | 120 => ⟨S2x8x2816, .f32⟩
  | 121 => ⟨S8x2x2816, .f32⟩
  | 122 => ⟨S2x8x2816, .f32⟩
  | 123 => ⟨S8x2x2816, .f32⟩
  | 124 => ⟨S2x8x2816, .f32⟩
  | 125 => ⟨S2x1x8x2816, .f32⟩
  | 126 => ⟨S2x1x8x2816, .f32⟩
  | 127 => ⟨S2x1x8x2816, .f32⟩
  | _ => ⟨S4096x5632, .f32⟩

abbrev hbmTy0_1 (i : Nat) : BufTy := match i % 128 with
  | 0 => ⟨S2x1x8x2816, .f32⟩
  | 1 => ⟨S2x4x8x2816, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v42_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v42_1 : Ref sig .tc := ⟨.hbm, 62, rfl⟩
abbrev main_v42_0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_6 : Ref sig .tc := ⟨.hbm, 87, rfl⟩
abbrev main_v60 : Ref sig .tc := ⟨.hbm, 88, rfl⟩
abbrev main_v61 : Ref sig .tc := ⟨.hbm, 89, rfl⟩
abbrev main_cst_7 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_cst_10 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1x4096x4096 : Shape := ⟨3, ![1, 4096, 4096]⟩
abbrev S4x1024x1024 : Shape := ⟨3, ![4, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S1x4096x4096, .f32⟩
  | .hbm, ⟨4, _⟩ => ⟨S1x4096x4096, .bf16⟩
  | .hbm, ⟨5, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S4096x2048 : Shape := ⟨2, ![4096, 2048]⟩
abbrev S4096x2x1024 : Shape := ⟨3, ![4096, 2, 1024]⟩
abbrev S2x4096x1024 : Shape := ⟨3, ![2, 4096, 1024]⟩
abbrev S4x1024x512 : Shape := ⟨3, ![4, 1024, 512]⟩
abbrev S2048x1024 : Shape := ⟨2, ![2048, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2x1024, .f32⟩
  | .hbm, ⟨3, _⟩ => ⟨S2x4096x1024, .f32⟩
  | .hbm, ⟨4, _⟩ => ⟨S4096x1024, .bf16⟩
  | .hbm, ⟨5, _⟩ => ⟨S2x4096x1024, .bf16⟩
  | .hbm, ⟨6, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S512x2816 : Shape := ⟨2, ![512, 2816]⟩
abbrev S1x512x1024 : Shape := ⟨3, ![1, 512, 1024]⟩
abbrev S2816x1024 : Shape := ⟨2, ![2816, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S1x4096x1024, .f32⟩
  | .hbm, ⟨4, _⟩ => ⟨S1x4096x1024, .bf16⟩
  | .hbm, ⟨5, _⟩ => ⟨S1x2816x1024, .bf16⟩
  | .local _ .vmem, ⟨0, _⟩ => ⟨S512x2816, .bf16⟩
  | .local _ .vmem, ⟨1, _⟩ => ⟨S512x2816, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | .hbm, ⟨8, _⟩ => ⟨S1x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x4096x1024, .f32⟩
  | .hbm, ⟨4, _⟩ => ⟨S1x4096x1024, .bf16⟩
  | .hbm, ⟨5, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .f32⟩
  | .local _ .vmem, ⟨8, _⟩ => ⟨S512x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x2816x1024 : Shape := ⟨3, ![1, 2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S4096x2816, .bf16⟩
  | .hbm, ⟨9, _⟩ => ⟨S1x2816x1024, .f32⟩
  | .hbm, ⟨10, _⟩ => ⟨S1x2816x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .bf16⟩
  | .hbm, ⟨7, _⟩ => ⟨S1x1024x1024, .f32⟩
  | .hbm, ⟨8, _⟩ => ⟨S1x1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel9.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1024x4x1408 : Shape := ⟨3, ![1024, 4, 1408]⟩
abbrev S4x1024x1408 : Shape := ⟨3, ![4, 1024, 1408]⟩
abbrev S3x2x2816 : Shape := ⟨3, ![3, 2, 2816]⟩
abbrev S2x3x2816 : Shape := ⟨3, ![2, 3, 2816]⟩
abbrev S1x5632 : Shape := ⟨2, ![1, 5632]⟩
abbrev S1x2x2816 : Shape := ⟨3, ![1, 2, 2816]⟩
abbrev S2x1x2816 : Shape := ⟨3, ![2, 1, 2816]⟩
abbrev S2x4096x2816 : Shape := ⟨3, ![2, 4096, 2816]⟩
abbrev S4096x2816 : Shape := ⟨2, ![4096, 2816]⟩
abbrev S256x1024 : Shape := ⟨2, ![256, 1024]⟩
abbrev S2x256x2816 : Shape := ⟨3, ![2, 256, 2816]⟩
abbrev S256x2816 : Shape := ⟨2, ![256, 2816]⟩
abbrev S2x2x8x1408 : Shape := ⟨4, ![2, 2, 8, 1408]⟩
abbrev S1x1024x1408 : Shape := ⟨3, ![1, 1024, 1408]⟩
abbrev S1024x1408 : Shape := ⟨2, ![1024, 1408]⟩
abbrev S256x1408 : Shape := ⟨2, ![256, 1408]⟩
abbrev S1x256x1408 : Shape := ⟨3, ![1, 256, 1408]⟩
abbrev S1x1x8x1408 : Shape := ⟨4, ![1, 1, 8, 1408]⟩
abbrev S8x1408 : Shape := ⟨2, ![8, 1408]⟩
abbrev S264x1408 : Shape := ⟨2, ![264, 1408]⟩
abbrev S1x3x2816 : Shape := ⟨3, ![1, 3, 2816]⟩
abbrev S3x2816 : Shape := ⟨2, ![3, 2816]⟩
abbrev S3x1408 : Shape := ⟨2, ![3, 1408]⟩
abbrev S1x1x2816 : Shape := ⟨3, ![1, 1, 2816]⟩
abbrev S1x2816 : Shape := ⟨2, ![1, 2816]⟩
abbrev S1x1408 : Shape := ⟨2, ![1, 1408]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S4096x1024, .bf16⟩
  | .hbm, ⟨8, _⟩ => ⟨S3x2x2816, .f32⟩
  | .hbm, ⟨9, _⟩ => ⟨S2x3x2816, .f32⟩
  | .hbm, ⟨10, _⟩ => ⟨S1x5632, .f32⟩
  | .hbm, ⟨11, _⟩ => ⟨S1x2x2816, .f32⟩
  | .hbm, ⟨12, _⟩ => ⟨S2x1x2816, .f32⟩
  | .hbm, ⟨13, _⟩ => ⟨S2x4096x2816, .bf16⟩
  | .hbm, ⟨14, _⟩ => ⟨S2x4096x2816, .bf16⟩
  | .hbm, ⟨15, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S4x1024x1408, .bf16⟩
  | .local _ .vmem, ⟨3, _⟩ => ⟨S2x3x2816, .f32⟩
  | .local _ .vmem, ⟨4, _⟩ => ⟨S2x1x2816, .f32⟩
  | .local _ .vmem, ⟨5, _⟩ => ⟨S2x256x2816, .bf16⟩
  | .local _ .vmem, ⟨6, _⟩ => ⟨S2x256x2816, .bf16⟩
  | .local _ .vmem, ⟨7, _⟩ => ⟨S2x256x2816, .bf16⟩
  | .local _ .vmem, ⟨8, _⟩ => ⟨S2x256x2816, .bf16⟩
  | .local _ .vmem, ⟨9, _⟩ => ⟨S256x2816, .bf16⟩
  | .local _ .vmem, ⟨10, _⟩ => ⟨S256x2816, .bf16⟩
  | .local _ .vmem, ⟨11, _⟩ => ⟨S2x2x8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S1x5632 : Shape := ⟨2, ![1, 5632]⟩
abbrev S_ : Shape := ⟨0, ![]⟩
abbrev S4095x5632 : Shape := ⟨2, ![4095, 5632]⟩
abbrev S2x5632 : Shape := ⟨2, ![2, 5632]⟩
abbrev S4094x5632 : Shape := ⟨2, ![4094, 5632]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S1x5632, .f32⟩
  | .hbm, ⟨6, _⟩ => ⟨S5632, .f32⟩
  | .hbm, ⟨7, _⟩ => ⟨S1x5632, .f32⟩
  | .hbm, ⟨8, _⟩ => ⟨S4096x5632, .f32⟩
  | .hbm, ⟨9, _⟩ => ⟨S4096x5632, .f32⟩
  | .hbm, ⟨10, _⟩ => ⟨S1x5632, .f32⟩
  | .hbm, ⟨11, _⟩ => ⟨S5632, .f32⟩
  | .hbm, ⟨12, _⟩ => ⟨S_, .f32⟩
  | .hbm, ⟨13, _⟩ => ⟨S1x5632, .f32⟩
  | .hbm, ⟨14, _⟩ => ⟨S4095x5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S_, .f32⟩
  | .hbm, ⟨23, _⟩ => ⟨S2x5632, .f32⟩
  | .hbm, ⟨24, _⟩ => ⟨S4094x5632, .f32⟩
  | .hbm, ⟨25, _⟩ => ⟨S4096x5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2x2816, .f32⟩
  | .hbm, ⟨36, _⟩ => ⟨S2x4096x2816, .f32⟩
  | .hbm, ⟨37, _⟩ => ⟨S2x4096x2816, .bf16⟩
  | .hbm, ⟨38, _⟩ => ⟨S4096x2x2816, .f32⟩
  | .hbm, ⟨39, _⟩ => ⟨S2x4096x2816, .f32⟩
  | .hbm, ⟨40, _⟩ => ⟨S2x4096x2816, .bf16⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel17.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1024x514 : Shape := ⟨2, ![1024, 514]⟩
abbrev S256x514 : Shape := ⟨2, ![256, 514]⟩

abbrev nBuf : Space → Nat
  | .hbm => 7
  | .vmem => 14
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .local _ .vmem, ⟨0, _⟩ => ⟨S256x514, .f32⟩
  | .local _ .vmem, ⟨1, _⟩ => ⟨S256x514, .f32⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | _, _ => ⟨S1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x514 : Shape := ⟨2, ![1024, 514]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S_, .f32⟩
  | .hbm, ⟨5, _⟩ => ⟨S1024x514, .f32⟩
  | .hbm, ⟨6, _⟩ => ⟨S1024x514, .f32⟩
  | .hbm, ⟨7, _⟩ => ⟨S_, .f32⟩
  | .hbm, ⟨8, _⟩ => ⟨S1024x514, .f32⟩
  | .hbm, ⟨9, _⟩ => ⟨S1024x514, .f32⟩
  | .hbm, ⟨10, _⟩ => ⟨S1024x514, .f32⟩
  | .hbm, ⟨11, _⟩ => ⟨S_, .f32⟩
  | .hbm, ⟨12, _⟩ => ⟨S1024x514, .f32⟩
  | .hbm, ⟨13, _⟩ => ⟨S1024x514, .f32⟩
  | .hbm, ⟨14, _⟩ => ⟨S1024x514, .f32⟩
  | .hbm, ⟨15, _⟩ => ⟨S_, .f32⟩
  | .hbm, ⟨16, _⟩ => ⟨S1024x514, .f32⟩
  | .hbm, ⟨17, _⟩ => ⟨S1024x514, .f32⟩
  | .hbm, ⟨18, _⟩ => ⟨S1024x514, .f32⟩
  | .hbm, ⟨19, _⟩ => ⟨S_, .f32⟩
  | .hbm, ⟨20, _⟩ => ⟨S1024x514, .f32⟩
  | .hbm, ⟨21, _⟩ => ⟨S1024x514, .f32⟩
  | .hbm, ⟨22, _⟩ => ⟨S_, .f32⟩
  | .hbm, ⟨23, _⟩ => ⟨S1024x514, .f32⟩
  | .hbm, ⟨24, _⟩ => ⟨S1024x514, .f32⟩
  | .hbm, ⟨25, _⟩ => ⟨S1024x514, .f32⟩
  | .hbm, ⟨26, _⟩ => ⟨S_, .f32⟩
  | .hbm, ⟨27, _⟩ => ⟨S1024x514, .f32⟩
  | .hbm, ⟨28, _⟩ => ⟨S1024x514, .f32⟩
  | .hbm, ⟨29, _⟩ => ⟨S1024x514, .f32⟩
  | .hbm, ⟨30, _⟩ => ⟨S_, .f32⟩
  | .hbm, ⟨31, _⟩ => ⟨S1024x514, .f32⟩
  | .hbm, ⟨32, _⟩ => ⟨S1024x514, .f32⟩
  | .hbm, ⟨33, _⟩ => ⟨S1024x514, .f32⟩
  | .hbm, ⟨34, _⟩ => ⟨S_, .f32⟩
  | .hbm, ⟨35, _⟩ => ⟨S1024x514, .f32⟩
  | .hbm, ⟨36, _⟩ => ⟨S1024x514, .f32⟩
  | _, _ => ⟨S1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S6x1408 : Shape := ⟨2, ![6, 1408]⟩

abbrev nBuf : Space → Nat
  | .hbm => 7
  | .vmem => 7
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S6x1408, .f32⟩
  | .hbm, ⟨5, _⟩ => ⟨S6x1408, .f32⟩
  | .hbm, ⟨6, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S6x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S6x1408 : Shape := ⟨2, ![6, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S_, .f32⟩
  | .hbm, ⟨5, _⟩ => ⟨S6x1408, .f32⟩
  | .hbm, ⟨6, _⟩ => ⟨S6x1408, .f32⟩
  | .hbm, ⟨7, _⟩ => ⟨S_, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S_, .f32⟩
  | .hbm, ⟨12, _⟩ => ⟨S6x1408, .f32⟩
  | .hbm, ⟨13, _⟩ => ⟨S6x1408, .f32⟩
  | .hbm, ⟨14, _⟩ => ⟨S6x1408, .f32⟩
  | .hbm, ⟨15, _⟩ => ⟨S_, .f32⟩
  | .hbm, ⟨16, _⟩ => ⟨S6x1408, .f32⟩
  | .hbm, ⟨17, _⟩ => ⟨S6x1408, .f32⟩
  | .hbm, ⟨18, _⟩ => ⟨S6x1408, .f32⟩
  | .hbm, ⟨19, _⟩ => ⟨S_, .f32⟩
  | .hbm, ⟨20, _⟩ => ⟨S6x1408, .f32⟩
  | .hbm, ⟨21, _⟩ => ⟨S6x1408, .f32⟩
  | .hbm, ⟨22, _⟩ => ⟨S_, .f32⟩
  | .hbm, ⟨23, _⟩ => ⟨S6x1408, .f32⟩
  | .hbm, ⟨24, _⟩ => ⟨S6x1408, .f32⟩
  | .hbm, ⟨25, _⟩ => ⟨S6x1408, .f32⟩
  | .hbm, ⟨26, _⟩ => ⟨S_, .f32⟩
  | .hbm, ⟨27, _⟩ => ⟨S6x1408, .f32⟩
  | .hbm, ⟨28, _⟩ => ⟨S6x1408, .f32⟩
  | .hbm, ⟨29, _⟩ => ⟨S6x1408, .f32⟩
  | .hbm, ⟨30, _⟩ => ⟨S_, .f32⟩
  | .hbm, ⟨31, _⟩ => ⟨S6x1408, .f32⟩
  | .hbm, ⟨32, _⟩ => ⟨S6x1408, .f32⟩
  | .hbm, ⟨33, _⟩ => ⟨S6x1408, .f32⟩
  | .hbm, ⟨34, _⟩ => ⟨S_, .f32⟩
  | .hbm, ⟨35, _⟩ => ⟨S6x1408, .f32⟩
  | .hbm, ⟨36, _⟩ => ⟨S6x1408, .f32⟩
  | _, _ => ⟨S6x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S2048x1408 : Shape := ⟨2, ![2048, 1408]⟩
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S1408x1024 : Shape := ⟨2, ![1408, 1024]⟩
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S704x1024, .f32⟩
  | .hbm, ⟨2, _⟩ => ⟨S704x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S1408x1024 : Shape := ⟨2, ![1408, 1024]⟩
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S704x1024, .f32⟩
  | .hbm, ⟨2, _⟩ => ⟨S704x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Premix.Row.lean ====
/- One row of the gradient through a root-mean-square normalisation, over the extended reals.

   For a row `x` and a cotangent `dr` of the normalised row, the kernel writes
   `inv · (dr - r · mean (dr · r))` with `r = x · inv`, and differentiation of the plain formula writes
   `dr · inv + x · g + g · x` with `g` the gradient that goes through the mean square.  The two agree
   for EVERY row of extended reals: where the mean square is finite every entry of the row is a real number and the factors
   are positive reals, which distribute over sums; where it is infinite both sides are zero. -/
module

public import Idealize.ShloMosaic.Lib.IdealHost
public import Idealize.ShloMosaic.Lib.Pointwise
public import Idealize.ShloMosaic.Lib.Pipeline.ValueKit

@[expose] public section

noncomputable section

open Idealize.ShloMosaic

namespace Cert.Premix

/-- The word of 1024. -/
theorem word_1024 : Ideal.ofBits .f32 1149239296#32 = ((1024 : ℝ) : EReal) := by
  simp [Ideal.ofBits, Ideal.ieee, -EReal.coe_mul]; norm_num

/-- The word of minus one half. -/
theorem word_neg_half : Ideal.ofBits .f32 3204448256#32 = ((-(1 / 2) : ℝ) : EReal) := by
  simp [Ideal.ofBits, Ideal.ieee, -EReal.coe_mul, -EReal.coe_neg]; norm_num

/-- The small number under the root is a positive real. -/
theorem word_eps : ∃ e : ℝ, 0 < e ∧ Ideal.ofBits .f32 897988541#32 = ((e : ℝ) : EReal) := by
  refine ⟨_, ?_, by simp [Ideal.ofBits, Ideal.ieee, -EReal.coe_mul]; rfl⟩
  positivity

/-- The reciprocal root of the mean square of a row. -/
def rinv {n : ℕ} (x : Fin n → EReal) : EReal :=
  Ideal.rsqrt (Ideal.div (∑ k, x k * x k) (Ideal.ofBits .f32 1149239296#32) + Ideal.ofBits .f32 897988541#32)

/-- The gradient of the row, as the kernel writes it. -/
def drow {n : ℕ} (x dr : Fin n → EReal) (j : Fin n) : EReal :=
  rinv x * (dr j - x j * rinv x *
    Ideal.div (∑ k, dr k * (x k * rinv x)) (Ideal.ofBits .f32 1149239296#32))

/-- The gradient that goes through the mean square, as differentiation of the plain formula writes it. -/
def dms {n : ℕ} (x dr : Fin n → EReal) : EReal :=
  ∑ _k : Fin 1, Ideal.div ((∑ k, x k * dr k) * (Ideal.ofBits .f32 3204448256#32 *
    Ideal.div (rinv x) (Ideal.div (∑ k, x k * x k) (Ideal.ofBits .f32 1149239296#32)
      + Ideal.ofBits .f32 897988541#32))) (Ideal.ofBits .f32 1149239296#32)

/-- A real factor that is not negative goes into a finite sum of extended reals. -/
theorem coe_mul_sum {ι : Type*} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

/-- A finite sum of real numbers, as an extended real. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Twice an extended real. -/
theorem add_self (a : EReal) : a + a = ((2 : ℝ) : EReal) * a := by
  induction a with
  | bot => simp [EReal.coe_mul_bot_of_pos]
  | top => simp [EReal.coe_mul_top_of_pos]
  | coe a => norm_cast; ring

theorem mul_self_nonneg (a : EReal) : 0 ≤ a * a := by
  induction a with
  | bot => simp
  | top => simp
  | coe a => exact_mod_cast _root_.mul_self_nonneg a

/-- A term of a sum that is not infinite, all terms of which are at least zero, is a real number's square. -/
theorem real_of_sum_ne_top {n : ℕ} {x : Fin n → EReal} (h : ∑ k, x k * x k ≠ ⊤) (j : Fin n) :
    ∃ a : ℝ, x j = a := by
  have hle : x j * x j ≤ ∑ k, x k * x k :=
    Finset.single_le_sum (f := fun k => x k * x k) (fun k _ => mul_self_nonneg (x k)) (Finset.mem_univ j)
  have hne : x j * x j ≠ ⊤ := fun h' => h (top_le_iff.mp (h' ▸ hle))
  generalize x j = a at hne
  induction a with
  | bot => simp at hne
  | top => simp at hne
  | coe a => exact ⟨a, rfl⟩

/-- The kernel's gradient of a row is the derivative's. -/
theorem drow_eq {n : ℕ} (x dr : Fin n → EReal) (j : Fin n) :
    drow x dr j = dr j * rinv x + x j * dms x dr + dms x dr * x j := by
  obtain ⟨e, he, hE⟩ := word_eps
  unfold drow dms
  simp only [Fin.sum_univ_one]
  by_cases h : ∑ k, x k * x k = ⊤
  · have hr : rinv x = 0 := by
      unfold rinv
      rw [h, word_1024, hE, Ideal.div_coe (by norm_num), EReal.top_mul_coe_of_pos (by norm_num)]
      simp
    have hz : Ideal.div (0 : EReal) (⊤ : EReal) = 0 := by simp [Ideal.div]
    simp only [hr]
    rw [h, word_1024, hE, Ideal.div_coe (by norm_num) ⊤, EReal.top_mul_coe_of_pos (by norm_num), EReal.top_add_coe, hz]
    simp [Ideal.div_coe]
  · choose a ha using real_of_sum_ne_top h
    have hS : ∑ k, x k * x k = ((∑ k, a k * a k : ℝ) : EReal) := by
      rw [coe_sum]
      exact Finset.sum_congr rfl fun k _ => by rw [ha k, EReal.coe_mul]
    set q : ℝ := (∑ k, a k * a k) * (1 / 1024) + e with hq
    have hq0 : 0 < q := by
      have : 0 ≤ ∑ k, a k * a k := Finset.sum_nonneg fun k _ => _root_.mul_self_nonneg _
      positivity
    have hms : Ideal.div (∑ k, x k * x k) (Ideal.ofBits .f32 1149239296#32) + Ideal.ofBits .f32 897988541#32
        = (q : EReal) := by
      rw [hS, word_1024, hE, Ideal.div_coe (by norm_num), hq]; norm_cast
    set i : ℝ := (Real.sqrt q)⁻¹ with hi
    have hi0 : 0 < i := by positivity
    have hiq : i * i * q = 1 := by
      rw [hi, ← mul_inv, Real.mul_self_sqrt hq0.le, inv_mul_cancel₀ hq0.ne']
    have hr : rinv x = (i : EReal) := by
      unfold rinv
      rw [hms, Ideal.rsqrt_coe, if_neg (not_lt.mpr hq0.le), if_neg hq0.ne']
    have hT : ∑ k, dr k * (x k * rinv x) = (i : EReal) * ∑ k, x k * dr k := by
      rw [coe_mul_sum _ _ hi0.le]
      exact Finset.sum_congr rfl fun k _ => by rw [hr]; ac_rfl
    rw [hT, hms, hr, ha j, word_1024, word_neg_half, Ideal.div_coe (by norm_num), Ideal.div_coe (by norm_num),
      Ideal.div_coe hq0.ne']
    generalize ∑ k, x k * dr k = T
    rw [sub_eq_add_neg, EReal.left_distrib_of_nonneg_of_ne_top (by exact_mod_cast hi0.le) (EReal.coe_ne_top i),
      add_assoc, mul_comm (dr j)]
    congr 1
    have hL : (i : EReal) * -((a j : EReal) * i * ((i : EReal) * T * ((1 / 1024 : ℝ) : EReal)))
        = ((-(i * (a j * i * i * (1 / 1024))) : ℝ) : EReal) * T := by
      rw [EReal.coe_neg, mul_neg, EReal.neg_mul]
      push_cast
      congr 1
      ac_rfl
    have hR : ∀ c : EReal, c = (a j : EReal) * (T * (((-(1 / 2) : ℝ) : EReal) * ((i : EReal) * ((1 / q : ℝ) : EReal)))
        * ((1 / 1024 : ℝ) : EReal)) → c + c = ((2 * (a j * ((-(1 / 2)) * (i * (1 / q)) * (1 / 1024))) : ℝ) : EReal) * T := by
      intro c hc
      rw [add_self, hc]
      simp only [EReal.coe_mul]
      ac_rfl
    rw [hL, mul_comm (T * _ * _) (a j : EReal), hR _ rfl]
    congr 2
    field_simp
    linear_combination (-(a j) : ℝ) * hiq

/-- A long sum cut into four tiles. -/
theorem sum_four_tiles {L : ℕ} (T : ℕ) (hL : 4 * T = L) (f : Fin L → EReal) :
    ∑ x : Fin T, f ⟨x, by omega⟩ + ∑ x : Fin T, f ⟨T + x, by omega⟩ + ∑ x : Fin T, f ⟨2 * T + x, by omega⟩
      + ∑ x : Fin T, f ⟨3 * T + x, by omega⟩ = ∑ l, f l := by
  rw [Fin.sum_univ_tiles 4 T hL f, Fin.sum_univ_four]
  simp

/-- The cotangent of the modulated row against the weight's columns: one entry of `d · wᵀ`. -/
def dh {R L : ℕ} (d : Fin R → Fin L → EReal) (w : Fin 1024 → Fin L → EReal) (i : Fin R) (k : Fin 1024) : EReal :=
  ∑ l, d i l * w k l

/-- Row `s` of the group `q` of eight rows. -/
def group (q : Fin 512) (s : Fin 8) : Fin 4096 := ⟨q.val * 8 + s.val, by omega⟩

/-- Row `s` of the group `x` of eight rows, in a block. -/
def sub (x : Fin 64) (s : Fin 8) : Fin 512 := ⟨x.val * 8 + s.val, by omega⟩

/-- Sums over eight grid points of 64 groups of eight rows are one sum over the 512 groups of eight rows. -/
theorem sum_groups (f : Fin 512 → EReal) (g : Fin 8 → Fin 64 → EReal)
    (h : ∀ (t : Fin 8) (x : Fin 64) (hl : t.val * 64 + x.val < 512), g t x = f ⟨t.val * 64 + x.val, hl⟩) :
    ∑ t, ∑ x, g t x = ∑ q, f q :=
  Fin.sum_mul_add_congr h

end Cert.Premix

end
-- ==== Proof.Premix.FirstRef.lean ====
/- What the derivative of the plain formula computes for the first normalisation and projection (program `ReferenceIdeal`). -/
module

public import proofs.«01_k».proof.Proof.Gen.ReferenceIdeal.Run
public import Idealize.ShloMosaic.Lib.Pointwise
public import Idealize.ShloMosaic.Lib.Claim
public import proofs.«01_k».proof.Proof.Premix.Row

@[expose] public section

set_option maxRecDepth 16384

noncomputable section

open Idealize.ShloMosaic Idealize.ShloMosaic.TcCoe Idealize.SL.Sem

namespace Cert.Premix.First
open Cert.ReferenceIdeal Cert.ReferenceIdeal.Gen

/-- The gradient of the rows. -/
theorem ref_dx (m : (ℓ : Loc nD τ sig) → Buf (Elt Ideal) ℓ) (c : Dev nD) (x : FVec Ideal S4096x1024 .f32)
    (s : FVec Ideal S1024 .f32) (w : FVec Ideal S1024x4096 .f32) (d : FVec Ideal S4096x4096 .f32)
    (r : FVec Ideal S4096x1024 .f32) (h0 : m (c.tc.loc main_arg0) = x) (h1 : m (c.tc.loc main_arg1) = s)
    (h2 : m (c.tc.loc main_arg2) = w) (h3 : m (c.tc.loc main_arg3) = d) (h4 : m (c.tc.loc main_arg4) = r)
    (i : Fin 4096) (j : Fin 1024) :
    (Value.res_out0 m c : FVec Ideal S4096x1024 .f32) (ix2 i j) = r (ix2 i j) + drow (fun k => x (ix2 i k))
      (fun k => dh (fun i l => d (ix2 i l)) (fun k l => w (ix2 k l)) i k * (1 + s (ix1 k))) j := by
  unfold Value.res_out0 Value.res_main_v52
  rw [h0, h1, h2, h3, h4]
  pointwise
  rw [drow_eq, ← add_assoc, ← add_assoc]
  rfl

/-- The gradient of the shift. -/
theorem ref_dshift (d : FVec Ideal S4096x4096 .f32) (w : FVec Ideal S1024x4096 .f32) (s : Fin 8) (j : Fin 1024) :
    (Host.reduceAdd (broadcastInDim S1x8x1024 ![1, 2] bcast_S8x1024_S1x8x1024_1_2 (Host.reduceAdd (shapeCast _
      (Host.dotGeneral dot_S4096x4096_S1024x4096_S4096x1024_1_1_0_0_n_n none d w)
      shapeCasts_S4096x1024_S512x8x1024) (constant S_ .f32 0x00000000#32) reducesTo_S512x8x1024_S8x1024_d0 h_S_))
      (constant S_ .f32 0x00000000#32) reducesTo_S1x8x1024_S8x1024_d0 h_S_ : FVec Ideal S8x1024 .f32) (ix2 s j)
    = ∑ q : Fin 512, dh (fun i l => d (ix2 i l)) (fun k l => w (ix2 k l)) (group q s) j := by
  pointwise
  exact Fin.sum_univ_one _

/-- The gradient of the scale. -/
theorem ref_dscale (x : FVec Ideal S4096x1024 .f32) (d : FVec Ideal S4096x4096 .f32) (w : FVec Ideal S1024x4096 .f32)
    (s : Fin 8) (j : Fin 1024) :
    (Host.reduceAdd (broadcastInDim S1x8x1024 ![1, 2] bcast_S8x1024_S1x8x1024_1_2 (Host.reduceAdd (shapeCast _
      (mulf (mulf x (broadcastInDim S4096x1024 ![0, 1] bcast_S4096x1_S4096x1024_0_1 (Host.rsqrt (addf (Host.divf
        (broadcastInDim S4096x1 ![0] bcast_S4096_S4096x1_0 (Host.reduceAdd (mulf x x) (constant S_ .f32 0x00000000#32)
          reducesTo_S4096x1024_S4096_d1 h_S_)) (broadcastInDim S4096x1 ![] bcast_S_S4096x1 (constant S_ .f32 0x44800000#32)))
        (broadcastInDim S4096x1 ![] bcast_S_S4096x1 (constant S_ .f32 0x358637BD#32))))))
        (Host.dotGeneral dot_S4096x4096_S1024x4096_S4096x1024_1_1_0_0_n_n none d w))
      shapeCasts_S4096x1024_S512x8x1024) (constant S_ .f32 0x00000000#32) reducesTo_S512x8x1024_S8x1024_d0 h_S_))
      (constant S_ .f32 0x00000000#32) reducesTo_S1x8x1024_S8x1024_d0 h_S_ : FVec Ideal S8x1024 .f32) (ix2 s j)
    = ∑ q : Fin 512, dh (fun i l => d (ix2 i l)) (fun k l => w (ix2 k l)) (group q s) j
        * (x (ix2 (group q s) j) * rinv (fun k => x (ix2 (group q s) k))) := by
  pointwise
  refine (Fin.sum_univ_one _).trans (Finset.sum_congr rfl fun q _ => ?_)
  exact mul_comm _ _

end Cert.Premix.First

end
-- ==== Proof.Premix.First.lean ====
/- The arrays that the gradient of the first normalisation and projection leaves (program `KernelIdeal`):
   the gradient of the rows, and the two gradients of the shift and of the scale, eight partial sums each. -/
module

public import proofs.«01_k».proof.Proof.Gen.KernelIdeal.Value
public import Idealize.ShloMosaic.Lib.Pipeline.ValueKit
public import Idealize.ShloMosaic.Lib.Claim
public import proofs.«01_k».proof.Proof.Premix.Row

@[expose] public section

set_option maxRecDepth 16384

noncomputable section

open Idealize.ShloMosaic Idealize.ShloMosaic.TcCoe Idealize.SL.Sem
open Idealize.ShloMosaic.Pipeline (Dat)

namespace Cert.Premix.First
open Cert.KernelIdeal Cert.KernelIdeal.Gen

variable (m : (ℓ : Loc nD τ sig) → Buf (Elt Ideal) ℓ)

/-- Which block each window reads or writes at a grid point. -/
theorem idx : ∀ t : Fin cfg0.N, win0_0.index t = ![t.val, 0] ∧ win0_1.index t = ![t.val, 0]
    ∧ win0_2.index t = ![0, 0] ∧ win0_3.index t = ![0, t.val, 0] ∧ win0_4.index t = ![0, 0, 0]
    ∧ win0_5.index t = ![t.val, 0] ∧ win0_6.index t = ![0, 0] ∧ win0_7.index t = ![0, 0] :=
  (by decide +kernel : ∀ t : Fin grid0.N, _)

/-- The rows that were normalised. -/
def X (c : Dev nD) (i : Fin 4096) (j : Fin 1024) : EReal := m (c.tc.loc main_arg0) (ix2 i j)
/-- The scale. -/
def SC (c : Dev nD) (j : Fin 1024) : EReal := m (c.tc.loc main_arg1) (ix1 j)
/-- The projection's weight. -/
def W (c : Dev nD) (j : Fin 1024) (l : Fin 4096) : EReal := m (c.tc.loc main_arg2) (ix2 j l)
/-- The projection's cotangent. -/
def D (c : Dev nD) (i : Fin 4096) (l : Fin 4096) : EReal := m (c.tc.loc main_arg3) (ix2 i l)
/-- The residual stream's cotangent. -/
def RES (c : Dev nD) (i : Fin 4096) (j : Fin 1024) : EReal := m (c.tc.loc main_arg4) (ix2 i j)

theorem row_lt (t : Fin cfg0.N) (r : Fin 512) : t.val * 512 + r.val < 4096 := by
  have := t.isLt; have h : cfg0.N = 8 := N_0; omega

/-- Row `r` of the block of grid point `t`. -/
def row (t : Fin cfg0.N) (r : Fin 512) : Fin 4096 := ⟨t.val * 512 + r.val, row_lt t r⟩

theorem rd0 (c : Dev nD) (t : Fin cfg0.N) (r : Fin 512) (j : Fin 1024) :
    iblk m c 0 t (ix2 r j) = X m c (row t r) j := by
  unfold X row
  blk_point [iblk, V, idx t]

theorem rd1 (c : Dev nD) (t : Fin cfg0.N) (r : Fin 512) (j : Fin 1024) :
    iblk m c 1 t (ix2 r j) = RES m c (row t r) j := by
  unfold RES row
  blk_point [iblk, V, idx t]

theorem rd2 (c : Dev nD) (t : Fin cfg0.N) (j : Fin 1024) : iblk m c 2 t (ix2 0 j) = SC m c j := by
  unfold SC
  blk_point [iblk, V, idx t]

theorem rd3 (c : Dev nD) (t : Fin cfg0.N) (r : Fin 512) (j : Fin 4096) :
    iblk m c 3 t (ix3 0 r j) = D m c (row t r) j := by
  unfold D row
  blk_point [iblk, V, idx t]

theorem rd4 (c : Dev nD) (t : Fin cfg0.N) (b : Fin 4) (k l : Fin 1024) :
    iblk m c 4 t (ix3 b k l) = W m c k ⟨b.val * 1024 + l.val, by omega⟩ := by
  unfold W
  blk_point [iblk, V, idx t]

/-- The four partial products of a block are one row of `d · wᵀ`. -/
theorem dh_tiles (c : Dev nD) (i : Fin 4096) (k : Fin 1024) :
    ∑ x : Fin 1024, D m c i ⟨x.val, by omega⟩ * W m c k ⟨(0 : Fin 4).val * 1024 + x.val, by omega⟩
      + ∑ x : Fin 1024, D m c i ⟨1024 + x.val, by omega⟩ * W m c k ⟨(1 : Fin 4).val * 1024 + x.val, by omega⟩
      + ∑ x : Fin 1024, D m c i ⟨2048 + x.val, by omega⟩ * W m c k ⟨(2 : Fin 4).val * 1024 + x.val, by omega⟩
      + ∑ x : Fin 1024, D m c i ⟨3072 + x.val, by omega⟩ * W m c k ⟨(3 : Fin 4).val * 1024 + x.val, by omega⟩
      = dh (D m c) (W m c) i k := by
  rw [dh, ← sum_four_tiles 1024 rfl]
  simp

/-- What the body computes for a block of rows. -/
theorem pay_dx (c : Dev nD) (t : Fin cfg0.N) (r : Fin 512) (j : Fin 1024) :
    k0_pay8 (k0_pay3 (iblk m c 0 t)) (k0_pay4 (iblk m c 0 t)) (iblk m c 1 t)
      (k0_pay5 (View.ld (iblk m c 3 t) (Rect.unit ![0, 0, 0] ![1, 512, 1024] inb_S1x512x4096_S1x512x1024_0_0_0))
        (View.ld (iblk m c 4 t) (Rect.unit ![0, 0, 0] ![1, 1024, 1024] inb_S4x1024x1024_S1x1024x1024_0_0_0))
        (View.ld (iblk m c 3 t) (Rect.unit ![0, 0, 1024] ![1, 512, 1024] inb_S1x512x4096_S1x512x1024_0_0_1024))
        (View.ld (iblk m c 4 t) (Rect.unit ![1, 0, 0] ![1, 1024, 1024] inb_S4x1024x1024_S1x1024x1024_1_0_0)))
      (k0_pay6 (View.ld (iblk m c 3 t) (Rect.unit ![0, 0, 2048] ![1, 512, 1024] inb_S1x512x4096_S1x512x1024_0_0_2048)))
      (View.ld (iblk m c 4 t) (Rect.unit ![2, 0, 0] ![1, 1024, 1024] inb_S4x1024x1024_S1x1024x1024_2_0_0))
      (View.ld (iblk m c 3 t) (Rect.unit ![0, 0, 3072] ![1, 512, 1024] inb_S1x512x4096_S1x512x1024_0_0_3072))
      (View.ld (iblk m c 4 t) (Rect.unit ![3, 0, 0] ![1, 1024, 1024] inb_S4x1024x1024_S1x1024x1024_3_0_0))
      (iblk m c 2 t) (ix2 r j)
    = RES m c (row t r) j
      + drow (X m c (row t r)) (fun k => dh (D m c) (W m c) (row t r) k * (1 + SC m c k)) j := by
  pointwise [k0_pay8, k0_pay7, k0_pay6, k0_pay5, k0_pay4, k0_pay3]
  simp only [rd0, rd1, rd2, rd3, rd4, dh_tiles]
  rfl

/-- What the body adds to the shift's partial sums. -/
theorem pay_dshift (c : Dev nD) (t : Fin cfg0.N) (acc : FVec Ideal S8x1024 .f32) (s : Fin 8) (j : Fin 1024) :
    k0_pay9
      (k0_pay5 (View.ld (iblk m c 3 t) (Rect.unit ![0, 0, 0] ![1, 512, 1024] inb_S1x512x4096_S1x512x1024_0_0_0))
        (View.ld (iblk m c 4 t) (Rect.unit ![0, 0, 0] ![1, 1024, 1024] inb_S4x1024x1024_S1x1024x1024_0_0_0))
        (View.ld (iblk m c 3 t) (Rect.unit ![0, 0, 1024] ![1, 512, 1024] inb_S1x512x4096_S1x512x1024_0_0_1024))
        (View.ld (iblk m c 4 t) (Rect.unit ![1, 0, 0] ![1, 1024, 1024] inb_S4x1024x1024_S1x1024x1024_1_0_0)))
      (k0_pay6 (View.ld (iblk m c 3 t) (Rect.unit ![0, 0, 2048] ![1, 512, 1024] inb_S1x512x4096_S1x512x1024_0_0_2048)))
      (View.ld (iblk m c 4 t) (Rect.unit ![2, 0, 0] ![1, 1024, 1024] inb_S4x1024x1024_S1x1024x1024_2_0_0))
      (View.ld (iblk m c 3 t) (Rect.unit ![0, 0, 3072] ![1, 512, 1024] inb_S1x512x4096_S1x512x1024_0_0_3072))
      (View.ld (iblk m c 4 t) (Rect.unit ![3, 0, 0] ![1, 1024, 1024] inb_S4x1024x1024_S1x1024x1024_3_0_0))
      acc (ix2 s j)
    = acc (ix2 s j) + ∑ x : Fin 64, dh (D m c) (W m c) (row t (sub x s)) j := by
  pointwise [k0_pay9, k0_pay7, k0_pay6, k0_pay5]
  simp only [rd3, rd4]
  exact congrArg (acc (ix2 s j) + ·) (Finset.sum_congr rfl fun x _ => dh_tiles m c _ j)

/-- What the body adds to the scale's partial sums. -/
theorem pay_dscale (c : Dev nD) (t : Fin cfg0.N) (acc : FVec Ideal S8x1024 .f32) (s : Fin 8) (j : Fin 1024) :
    k0_pay10 (k0_pay4 (iblk m c 0 t))
      (k0_pay5 (View.ld (iblk m c 3 t) (Rect.unit ![0, 0, 0] ![1, 512, 1024] inb_S1x512x4096_S1x512x1024_0_0_0))
        (View.ld (iblk m c 4 t) (Rect.unit ![0, 0, 0] ![1, 1024, 1024] inb_S4x1024x1024_S1x1024x1024_0_0_0))
        (View.ld (iblk m c 3 t) (Rect.unit ![0, 0, 1024] ![1, 512, 1024] inb_S1x512x4096_S1x512x1024_0_0_1024))
        (View.ld (iblk m c 4 t) (Rect.unit ![1, 0, 0] ![1, 1024, 1024] inb_S4x1024x1024_S1x1024x1024_1_0_0)))
      (k0_pay6 (View.ld (iblk m c 3 t) (Rect.unit ![0, 0, 2048] ![1, 512, 1024] inb_S1x512x4096_S1x512x1024_0_0_2048)))
      (View.ld (iblk m c 4 t) (Rect.unit ![2, 0, 0] ![1, 1024, 1024] inb_S4x1024x1024_S1x1024x1024_2_0_0))
      (View.ld (iblk m c 3 t) (Rect.unit ![0, 0, 3072] ![1, 512, 1024] inb_S1x512x4096_S1x512x1024_0_0_3072))
      (View.ld (iblk m c 4 t) (Rect.unit ![3, 0, 0] ![1, 1024, 1024] inb_S4x1024x1024_S1x1024x1024_3_0_0))
      acc (ix2 s j)
    = acc (ix2 s j) + ∑ x : Fin 64, dh (D m c) (W m c) (row t (sub x s)) j
        * (X m c (row t (sub x s)) j * rinv (X m c (row t (sub x s)))) := by
  pointwise [k0_pay10, k0_pay7, k0_pay6, k0_pay5, k0_pay4, k0_pay3]
  simp only [rd0, rd3, rd4]
  exact congrArg (acc (ix2 s j) + ·) (Finset.sum_congr rfl fun x _ => congrArg (· * _) (dh_tiles m c _ j))

/-- The gradient of the rows. -/
theorem final_dx (c : Dev nD) : (dats m 0 c).arrAt 5 cfg0.N
    = fun y : S4096x1024.Idx => RES m c (y 0) (y 1)
      + drow (X m c (y 0)) (fun k => dh (D m c) (W m c) (y 0) k * (1 + SC m c k)) (y 1) := by
  refine (dats m 0 c).arrAt_eq_of_covers 5 _ (by decide +kernel) fun t hf y => ?_
  blk_simp
  rw [after0_5]
  change S512x1024.Idx at y
  idx_vars y
  have hr : (win0_5.blk t).view.emb (ix2 y0 y1) = ix2 (row t y0) y1 := by
    unfold row
    blk_ext [idx t]
  rw [hr]
  by_cases h : t.val % 8 = 0
  · rw [outsAt0_A m c t h]; frame_out
    exact pay_dx m c t y0 y1
  · rw [outsAt0_B m c t h]; frame_out
    exact pay_dx m c t y0 y1

/-- The shift's partial sums after the last grid point. -/
theorem acc_dshift (c : Dev nD) (s : Fin 8) (j : Fin 1024) :
    ((outsAt0 m c t0_7.val t0_7.isLt).2.1 : S8x1024.Idx → EReal) (ix2 s j)
      = ∑ q : Fin 512, dh (D m c) (W m c) (group q s) j := by
  rw [Pipeline.eq_sum_fin_of_reset_step_apply_last (fun n h => ((outsAt0 m c n h).2.1 : S8x1024.Idx → EReal)) 8
      (fun _ => (0 : EReal))
      (fun t y => (∑ x : Fin 64, dh (D m c) (W m c) (row t (sub x (y 0))) (y 1) : EReal))
      (fun t h y => by
        rw [outsAt0_A m c t h]; frame_out
        idx_vars y
        refine (pay_dshift m c t _ y0 y1).trans ?_
        pointwise [k0_pay1])
      (fun t h y => by
        rw [outsAt0_B m c t h]; frame_out
        idx_vars y
        exact pay_dshift m c t _ y0 y1)
      (le_of_eq N_0) t0_7 rfl (ix2 s j), zero_add]
  refine sum_groups _ (fun t x => _) fun t x hl => ?_
  refine congrArg (fun i => dh (D m c) (W m c) i j) (Fin.ext ?_)
  show t.val * 512 + (x.val * 8 + s.val) = (t.val * 64 + x.val) * 8 + s.val
  omega

/-- The gradient of the shift. -/
theorem final_dshift (c : Dev nD) : (dats m 0 c).arrAt 6 cfg0.N
    = fun y : S8x1024.Idx => (∑ q : Fin 512, dh (D m c) (W m c) (group q (y 0)) (y 1) : EReal) := by
  refine (dats m 0 c).arrAt_eq_of_after_last 6 t0_7 (by decide +kernel) _ fun y => ?_
  blk_simp
  rw [after0_6]
  change S8x1024.Idx at y
  idx_vars y
  exact acc_dshift m c y0 y1

/-- The scale's partial sums after the last grid point. -/
theorem acc_dscale (c : Dev nD) (s : Fin 8) (j : Fin 1024) :
    ((outsAt0 m c t0_7.val t0_7.isLt).2.2 : S8x1024.Idx → EReal) (ix2 s j)
      = ∑ q : Fin 512, dh (D m c) (W m c) (group q s) j
        * (X m c (group q s) j * rinv (X m c (group q s))) := by
  rw [Pipeline.eq_sum_fin_of_reset_step_apply_last (fun n h => ((outsAt0 m c n h).2.2 : S8x1024.Idx → EReal)) 8
      (fun _ => (0 : EReal))
      (fun t y => (∑ x : Fin 64, dh (D m c) (W m c) (row t (sub x (y 0))) (y 1)
        * (X m c (row t (sub x (y 0))) (y 1) * rinv (X m c (row t (sub x (y 0))))) : EReal))
      (fun t h y => by
        rw [outsAt0_A m c t h]; frame_out
        idx_vars y
        refine (pay_dscale m c t _ y0 y1).trans ?_
        pointwise [k0_pay2])
      (fun t h y => by
        rw [outsAt0_B m c t h]; frame_out
        idx_vars y
        exact pay_dscale m c t _ y0 y1)
      (le_of_eq N_0) t0_7 rfl (ix2 s j), zero_add]
  refine sum_groups _ (fun t x => _) fun t x hl => ?_
  refine congrArg (fun i => dh (D m c) (W m c) i j * (X m c i j * rinv (X m c i))) (Fin.ext ?_)
  show t.val * 512 + (x.val * 8 + s.val) = (t.val * 64 + x.val) * 8 + s.val
  omega

/-- The gradient of the scale. -/
theorem final_dscale (c : Dev nD) : (dats m 0 c).arrAt 7 cfg0.N
    = fun y : S8x1024.Idx => (∑ q : Fin 512, dh (D m c) (W m c) (group q (y 0)) (y 1)
        * (X m c (group q (y 0)) (y 1) * rinv (X m c (group q (y 0)))) : EReal) := by
  refine (dats m 0 c).arrAt_eq_of_after_last 7 t0_7 (by decide +kernel) _ fun y => ?_
  blk_simp
  rw [after0_7]
  change S8x1024.Idx at y
  idx_vars y
  exact acc_dscale m c y0 y1

end Cert.Premix.First

end
-- ==== Proof.Premix.FirstClaim.lean ====
/- The claim about the gradient of the first normalisation and projection. -/
module

public import proofs.«01_k».proof.Defs
public import proofs.«01_k».proof.Proof.Premix.FirstRef
public import proofs.«01_k».proof.Proof.Premix.First

@[expose] public section

set_option maxRecDepth 16384

noncomputable section

open Idealize.ShloMosaic Idealize.ShloMosaic.TcCoe Idealize.SL.Sem

namespace Cert.Premix.First

set_option maxHeartbeats 1600000 in
/-- The kernel's gradients are the derivative's. -/
theorem algebraic : Cert.algebraic_KernelIdeal_ReferenceIdeal := by
  pair_intro
  · run_from Cert.KernelIdeal.Gen.run_main m g
  · run_from Cert.ReferenceIdeal.Value.run m' g'
    · obtain ⟨h0, h1, h2, h3, h4⟩ := hagree c
      rw [final_dx m c]
      funext y
      idx_vars y
      exact ref_dx m' c _ _ _ _ _ h0 h1 h2 h3 h4 y0 y1
    · rw [final_dshift m c]
      funext y
      idx_vars y
      exact ref_dshift _ _ y0 y1
    · rw [final_dscale m c]
      funext y
      idx_vars y
      exact ref_dscale _ _ _ y0 y1

end Cert.Premix.First

end
-- ==== Proof.Premix.SecondRef.lean ====
/- What the derivative of the plain formula computes for a feed-forward block's normalisation and up-projection
   (program `Reference2Ideal`). -/
module

public import proofs.«01_k».proof.Proof.Gen.Reference2Ideal.Run
public import Idealize.ShloMosaic.Lib.Pointwise
public import Idealize.ShloMosaic.Lib.Claim
public import proofs.«01_k».proof.Proof.Premix.Row

@[expose] public section

set_option maxRecDepth 16384

noncomputable section

open Idealize.ShloMosaic Idealize.ShloMosaic.TcCoe Idealize.SL.Sem

namespace Cert.Premix.Second
open Cert.Reference2Ideal Cert.Reference2Ideal.Gen

/-- The gradient of the rows, over the arrays of the arguments. -/
def rdx (x : FVec Ideal S4096x1024 .f32) (y : FVec Ideal S4096x1024 .f32)
    (g : FVec Ideal S1024 .f32) (s : FVec Ideal S1024 .f32) (w : FVec Ideal S1024x5632 .f32)
    (d : FVec Ideal S4096x5632 .f32) (r : FVec Ideal S4096x1024 .f32) (i : Fin 4096) (j : Fin 1024) : EReal :=
  r (ix2 i j) + drow (fun k => x (ix2 i k) + g (ix1 k) * y (ix2 i k))
    (fun k => dh (fun i l => d (ix2 i l)) (fun k l => w (ix2 k l)) i k * (1 + s (ix1 k))) j

set_option maxHeartbeats 1000000 in
/-- The gradient of the rows. -/
theorem ref_dx (m : (ℓ : Loc nD τ sig) → Buf (Elt Ideal) ℓ) (c : Dev nD) (x : FVec Ideal S4096x1024 .f32) (y : FVec Ideal S4096x1024 .f32)
    (g : FVec Ideal S1024 .f32) (s : FVec Ideal S1024 .f32) (w : FVec Ideal S1024x5632 .f32)
    (d : FVec Ideal S4096x5632 .f32) (r : FVec Ideal S4096x1024 .f32)
    (h0 : m (c.tc.loc main_arg0) = x)
    (h1 : m (c.tc.loc main_arg1) = y)
    (h2 : m (c.tc.loc main_arg2) = g)
    (h3 : m (c.tc.loc main_arg3) = s)
    (h4 : m (c.tc.loc main_arg4) = w)
    (h5 : m (c.tc.loc main_arg5) = d)
    (h6 : m (c.tc.loc main_arg6) = r)
    (i : Fin 4096) (j : Fin 1024) :
    (Value.res_out0 m c : FVec Ideal S4096x1024 .f32) (ix2 i j) = rdx x y g s w d r i j := by
  unfold Value.res_out0 Value.res_main_v59
  rw [h0, h1, h2, h3, h4, h5, h6]
  pointwise
  rw [rdx, drow_eq, ← add_assoc, ← add_assoc]
  rfl

set_option maxHeartbeats 1000000 in
/-- The gradient of the branch's rows. -/
theorem ref_dy (m : (ℓ : Loc nD τ sig) → Buf (Elt Ideal) ℓ) (c : Dev nD) (x : FVec Ideal S4096x1024 .f32) (y : FVec Ideal S4096x1024 .f32)
    (g : FVec Ideal S1024 .f32) (s : FVec Ideal S1024 .f32) (w : FVec Ideal S1024x5632 .f32)
    (d : FVec Ideal S4096x5632 .f32) (r : FVec Ideal S4096x1024 .f32)
    (h0 : m (c.tc.loc main_arg0) = x)
    (h1 : m (c.tc.loc main_arg1) = y)
    (h2 : m (c.tc.loc main_arg2) = g)
    (h3 : m (c.tc.loc main_arg3) = s)
    (h4 : m (c.tc.loc main_arg4) = w)
    (h5 : m (c.tc.loc main_arg5) = d)
    (h6 : m (c.tc.loc main_arg6) = r)
    (u : Fin 1) (i : Fin 4096) (j : Fin 1024) :
    (Value.res_out3 m c : FVec Ideal S1x4096x1024 .bf16) (ix3 u i j) = rdx x y g s w d r i j * g (ix1 j) := by
  unfold Value.res_out3 Value.res_main_v68
  rw [h0, h1, h2, h3, h4, h5, h6]
  pointwise
  rw [rdx, drow_eq, ← add_assoc, ← add_assoc]
  show (_ : EReal) = _
  exact mul_comm _ _

set_option maxHeartbeats 1000000 in
/-- The gradient of the branch's gate. -/
theorem ref_dgate (m : (ℓ : Loc nD τ sig) → Buf (Elt Ideal) ℓ) (c : Dev nD) (x : FVec Ideal S4096x1024 .f32) (y : FVec Ideal S4096x1024 .f32)
    (g : FVec Ideal S1024 .f32) (s : FVec Ideal S1024 .f32) (w : FVec Ideal S1024x5632 .f32)
    (d : FVec Ideal S4096x5632 .f32) (r : FVec Ideal S4096x1024 .f32)
    (h0 : m (c.tc.loc main_arg0) = x)
    (h1 : m (c.tc.loc main_arg1) = y)
    (h2 : m (c.tc.loc main_arg2) = g)
    (h3 : m (c.tc.loc main_arg3) = s)
    (h4 : m (c.tc.loc main_arg4) = w)
    (h5 : m (c.tc.loc main_arg5) = d)
    (h6 : m (c.tc.loc main_arg6) = r)
    (e : Fin 8) (j : Fin 1024) :
    (Value.res_out4 m c : FVec Ideal S8x1024 .f32) (ix2 e j)
      = ∑ q : Fin 512, rdx x y g s w d r (group q e) j * y (ix2 (group q e) j) := by
  unfold Value.res_out4 Value.res_main_v66
  rw [h0, h1, h2, h3, h4, h5, h6]
  pointwise
  show (_ : EReal) = _
  refine (Fin.sum_univ_one _).trans (Finset.sum_congr rfl fun q _ => congrArg (· * _) ?_)
  rw [rdx, drow_eq, ← add_assoc, ← add_assoc]
  rfl

/-- The gradient of the shift. -/
theorem ref_dshift (w : FVec Ideal S1024x5632 .f32) (d : FVec Ideal S4096x5632 .f32) (e : Fin 8) (j : Fin 1024) :
    (Host.reduceAdd (broadcastInDim S1x8x1024 ![1, 2] bcast_S8x1024_S1x8x1024_1_2 (Host.reduceAdd (shapeCast _ (Host.dotGeneral
      dot_S4096x5632_S1024x5632_S4096x1024_1_1_0_0_n_n none d w) shapeCasts_S4096x1024_S512x8x1024) (constant S_ .f32 0x00000000#32)
      reducesTo_S512x8x1024_S8x1024_d0 h_S_)) (constant S_ .f32 0x00000000#32) reducesTo_S1x8x1024_S8x1024_d0 h_S_ : FVec Ideal S8x1024 .f32) (ix2 e j)
    = ∑ q : Fin 512, dh (fun i l => d (ix2 i l)) (fun k l => w (ix2 k l)) (group q e) j := by
  pointwise
  exact Fin.sum_univ_one _

/-- The gradient of the scale. -/
theorem ref_dscale (x : FVec Ideal S4096x1024 .f32) (y : FVec Ideal S4096x1024 .f32)
    (g : FVec Ideal S1024 .f32) (w : FVec Ideal S1024x5632 .f32) (d : FVec Ideal S4096x5632 .f32) (e : Fin 8) (j : Fin 1024) :
    (Host.reduceAdd (broadcastInDim S1x8x1024 ![1, 2] bcast_S8x1024_S1x8x1024_1_2 (Host.reduceAdd (shapeCast _ (mulf (mulf (addf x (mulf (shapeCast _
      (broadcastInDim S512x8x1024 ![0, 1, 2] bcast_S1x8x1024_S512x8x1024_0_1_2 (broadcastInDim S1x8x1024 ![1, 2] bcast_S8x1024_S1x8x1024_1_2
      (broadcastInDim S8x1024 ![0, 1] bcast_S1x1024_S8x1024_0_1 (broadcastInDim S1x1024 ![1] bcast_S1024_S1x1024_1 g))))
      shapeCasts_S512x8x1024_S4096x1024) y)) (broadcastInDim S4096x1024 ![0, 1] bcast_S4096x1_S4096x1024_0_1 (Host.rsqrt (addf (Host.divf
      (broadcastInDim S4096x1 ![0] bcast_S4096_S4096x1_0 (Host.reduceAdd (mulf (addf x (mulf (shapeCast _ (broadcastInDim S512x8x1024 ![0, 1, 2]
      bcast_S1x8x1024_S512x8x1024_0_1_2 (broadcastInDim S1x8x1024 ![1, 2] bcast_S8x1024_S1x8x1024_1_2 (broadcastInDim S8x1024 ![0, 1]
      bcast_S1x1024_S8x1024_0_1 (broadcastInDim S1x1024 ![1] bcast_S1024_S1x1024_1 g)))) shapeCasts_S512x8x1024_S4096x1024) y)) (addf x (mulf
      (shapeCast _ (broadcastInDim S512x8x1024 ![0, 1, 2] bcast_S1x8x1024_S512x8x1024_0_1_2 (broadcastInDim S1x8x1024 ![1, 2]
      bcast_S8x1024_S1x8x1024_1_2 (broadcastInDim S8x1024 ![0, 1] bcast_S1x1024_S8x1024_0_1 (broadcastInDim S1x1024 ![1] bcast_S1024_S1x1024_1 g))))
      shapeCasts_S512x8x1024_S4096x1024) y))) (constant S_ .f32 0x00000000#32) reducesTo_S4096x1024_S4096_d1 h_S_)) (broadcastInDim S4096x1 ![]
      bcast_S_S4096x1 (constant S_ .f32 0x44800000#32))) (broadcastInDim S4096x1 ![] bcast_S_S4096x1 (constant S_ .f32 0x358637BD#32))))))
      (Host.dotGeneral dot_S4096x5632_S1024x5632_S4096x1024_1_1_0_0_n_n none d w)) shapeCasts_S4096x1024_S512x8x1024) (constant S_ .f32 0x00000000#32)
      reducesTo_S512x8x1024_S8x1024_d0 h_S_)) (constant S_ .f32 0x00000000#32) reducesTo_S1x8x1024_S8x1024_d0 h_S_ : FVec Ideal S8x1024 .f32) (ix2 e j)
    = ∑ q : Fin 512, dh (fun i l => d (ix2 i l)) (fun k l => w (ix2 k l)) (group q e) j
        * ((x (ix2 (group q e) j) + g (ix1 j) * y (ix2 (group q e) j)) * rinv (fun k => x (ix2 (group q e) k) + g (ix1 k) * y (ix2 (group q e) k))) := by
  pointwise
  refine (Fin.sum_univ_one _).trans (Finset.sum_congr rfl fun q _ => ?_)
  exact mul_comm _ _

end Cert.Premix.Second

end
-- ==== Proof.Premix.Second.lean ====
/- The arrays that the gradient of a feed-forward block's normalisation and up-projection leaves (program
   `Kernel2Ideal`): the gradient of the rows, of the branch that was added to them, and the gradients of the shift,
   of the scale and of the branch's gate, eight partial sums each. -/
module

public import proofs.«01_k».proof.Proof.Gen.Kernel2Ideal.Value
public import Idealize.ShloMosaic.Lib.Pipeline.ValueKit
public import Idealize.ShloMosaic.Lib.Claim
public import proofs.«01_k».proof.Proof.Premix.Row

@[expose] public section

set_option maxRecDepth 16384

noncomputable section

open Idealize.ShloMosaic Idealize.ShloMosaic.TcCoe Idealize.SL.Sem
open Idealize.ShloMosaic.Pipeline (Dat)

namespace Cert.Premix.Second
open Cert.Kernel2Ideal Cert.Kernel2Ideal.Gen

variable (m : (ℓ : Loc nD τ sig) → Buf (Elt Ideal) ℓ)

/-- Which block each window reads or writes at a grid point. -/
theorem idx : ∀ t : Fin cfg0.N, win0_0.index t = ![t.val, 0] ∧ win0_1.index t = ![t.val, 0]
    ∧ win0_2.index t = ![0, 0] ∧ win0_3.index t = ![0, t.val, 0] ∧ win0_4.index t = ![0, 0, 0]
    ∧ win0_5.index t = ![t.val, 0] ∧ win0_6.index t = ![0, 0] ∧ win0_7.index t = ![t.val, 0]
    ∧ win0_8.index t = ![0, 0] ∧ win0_9.index t = ![0, 0] ∧ win0_10.index t = ![0, t.val, 0]
    ∧ win0_11.index t = ![0, 0] :=
  (by decide +kernel : ∀ t : Fin grid0.N, _)

/-- The branch's rows. -/
def Y (c : Dev nD) (i : Fin 4096) (j : Fin 1024) : EReal := m (c.tc.loc main_arg1) (ix2 i j)
/-- The branch's gate. -/
def G (c : Dev nD) (j : Fin 1024) : EReal := m (c.tc.loc main_arg2) (ix1 j)
/-- The stream's rows. -/
def XIN (c : Dev nD) (i : Fin 4096) (j : Fin 1024) : EReal := m (c.tc.loc main_arg0) (ix2 i j)
/-- The rows that were normalised: the stream plus the gated branch. -/
def X (c : Dev nD) (i : Fin 4096) (j : Fin 1024) : EReal := XIN m c i j + G m c j * Y m c i j
/-- The scale. -/
def SC (c : Dev nD) (j : Fin 1024) : EReal := m (c.tc.loc main_arg3) (ix1 j)
/-- The up-projection's weight. -/
def W (c : Dev nD) (j : Fin 1024) (l : Fin 5632) : EReal := m (c.tc.loc main_arg4) (ix2 j l)
/-- The up-projection's cotangent. -/
def D (c : Dev nD) (i : Fin 4096) (l : Fin 5632) : EReal := m (c.tc.loc main_arg5) (ix2 i l)
/-- The residual stream's cotangent. -/
def RES (c : Dev nD) (i : Fin 4096) (j : Fin 1024) : EReal := m (c.tc.loc main_arg6) (ix2 i j)

theorem row_lt (t : Fin cfg0.N) (r : Fin 512) : t.val * 512 + r.val < 4096 := by
  have := t.isLt; have h : cfg0.N = 8 := N_0; omega

/-- Row `r` of the block of grid point `t`. -/
def row (t : Fin cfg0.N) (r : Fin 512) : Fin 4096 := ⟨t.val * 512 + r.val, row_lt t r⟩

theorem rd0 (c : Dev nD) (t : Fin cfg0.N) (r : Fin 512) (j : Fin 1024) :
    iblk m c 0 t (ix2 r j) = X m c (row t r) j := by
  have he : (win0_0.blk t).view.emb (ix2 r j) = ix2 (row t r) j := by
    unfold row
    blk_ext [idx t]
  blk_simp [iblk]
  rw [he]
  entry_read
  pointwise
  rfl

theorem rd1 (c : Dev nD) (t : Fin cfg0.N) (r : Fin 512) (j : Fin 1024) :
    iblk m c 1 t (ix2 r j) = RES m c (row t r) j := by
  unfold RES row
  blk_point [iblk, V, idx t]

theorem rd2 (c : Dev nD) (t : Fin cfg0.N) (j : Fin 1024) : iblk m c 2 t (ix2 0 j) = SC m c j := by
  unfold SC
  blk_point [iblk, V, idx t]

theorem rd3 (c : Dev nD) (t : Fin cfg0.N) (b : Fin 2) (r : Fin 512) (j : Fin 2816) :
    iblk m c 3 t (ix3 b r j) = D m c (row t r) ⟨b.val * 2816 + j.val, by omega⟩ := by
  unfold D row
  blk_point [iblk, V, idx t]

theorem rd4 (c : Dev nD) (t : Fin cfg0.N) (b : Fin 4) (k : Fin 1024) (l : Fin 1408) :
    iblk m c 4 t (ix3 b k l) = W m c k ⟨b.val * 1408 + l.val, by omega⟩ := by
  unfold W
  blk_point [iblk, V, idx t]

theorem rd5 (c : Dev nD) (t : Fin cfg0.N) (r : Fin 512) (j : Fin 1024) :
    iblk m c 5 t (ix2 r j) = Y m c (row t r) j := by
  unfold Y row
  blk_point [iblk, V, idx t]

theorem rd6 (c : Dev nD) (t : Fin cfg0.N) (j : Fin 1024) : iblk m c 6 t (ix2 0 j) = G m c j := by
  unfold G
  blk_point [iblk, V, idx t]

/-- The four partial products of a block are one row of `d · wᵀ`. -/
theorem dh_tiles (c : Dev nD) (i : Fin 4096) (k : Fin 1024) :
    ∑ x : Fin 1408, D m c i ⟨(0 : Fin 2).val * 2816 + x.val, by omega⟩ * W m c k ⟨(0 : Fin 4).val * 1408 + x.val, by omega⟩
      + ∑ x : Fin 1408, D m c i ⟨(0 : Fin 2).val * 2816 + (1408 + x.val), by omega⟩ * W m c k ⟨(1 : Fin 4).val * 1408 + x.val, by omega⟩
      + ∑ x : Fin 1408, D m c i ⟨(1 : Fin 2).val * 2816 + x.val, by omega⟩ * W m c k ⟨(2 : Fin 4).val * 1408 + x.val, by omega⟩
      + ∑ x : Fin 1408, D m c i ⟨(1 : Fin 2).val * 2816 + (1408 + x.val), by omega⟩ * W m c k ⟨(3 : Fin 4).val * 1408 + x.val, by omega⟩
      = dh (D m c) (W m c) i k := by
  rw [dh, ← sum_four_tiles 1408 rfl]
  simp [← Nat.add_assoc]

/-- The gradient of the rows of the whole array. -/
def DX (c : Dev nD) (i : Fin 4096) (j : Fin 1024) : EReal :=
  RES m c i j + drow (X m c i) (fun k => dh (D m c) (W m c) i k * (1 + SC m c k)) j

/-- What the body computes for a block of rows. -/
theorem pay_dx (c : Dev nD) (t : Fin cfg0.N) (r : Fin 512) (j : Fin 1024) :
    k0_pay13 (k0_pay8 (iblk m c 0 t)) (k0_pay9 (iblk m c 0 t)) (iblk m c 1 t)
      (k0_pay10 (View.ld (iblk m c 3 t) (Rect.unit ![0, 0, 0] ![1, 512, 1408] inb_S2x512x2816_S1x512x1408_0_0_0))
        (View.ld (iblk m c 4 t) (Rect.unit ![0, 0, 0] ![1, 1024, 1408] inb_S4x1024x1408_S1x1024x1408_0_0_0))
        (View.ld (iblk m c 3 t) (Rect.unit ![0, 0, 1408] ![1, 512, 1408] inb_S2x512x2816_S1x512x1408_0_0_1408))
        (View.ld (iblk m c 4 t) (Rect.unit ![1, 0, 0] ![1, 1024, 1408] inb_S4x1024x1408_S1x1024x1408_1_0_0)))
      (k0_pay11 (View.ld (iblk m c 3 t) (Rect.unit ![1, 0, 0] ![1, 512, 1408] inb_S2x512x2816_S1x512x1408_1_0_0)))
      (View.ld (iblk m c 4 t) (Rect.unit ![2, 0, 0] ![1, 1024, 1408] inb_S4x1024x1408_S1x1024x1408_2_0_0))
      (View.ld (iblk m c 3 t) (Rect.unit ![1, 0, 1408] ![1, 512, 1408] inb_S2x512x2816_S1x512x1408_1_0_1408))
      (View.ld (iblk m c 4 t) (Rect.unit ![3, 0, 0] ![1, 1024, 1408] inb_S4x1024x1408_S1x1024x1408_3_0_0))
      (iblk m c 2 t) (ix2 r j)
    = DX m c (row t r) j := by
  pointwise [k0_pay13, k0_pay12, k0_pay11, k0_pay10, k0_pay9, k0_pay8, k0_pay7]
  simp only [rd0, rd1, rd2, rd3, rd4, dh_tiles]
  rfl

/-- What the body adds to the shift's partial sums. -/
theorem pay_dshift (c : Dev nD) (t : Fin cfg0.N) (acc : FVec Ideal S8x1024 .f32) (s : Fin 8) (j : Fin 1024) :
    k0_pay14
      (k0_pay10 (View.ld (iblk m c 3 t) (Rect.unit ![0, 0, 0] ![1, 512, 1408] inb_S2x512x2816_S1x512x1408_0_0_0))
        (View.ld (iblk m c 4 t) (Rect.unit ![0, 0, 0] ![1, 1024, 1408] inb_S4x1024x1408_S1x1024x1408_0_0_0))
        (View.ld (iblk m c 3 t) (Rect.unit ![0, 0, 1408] ![1, 512, 1408] inb_S2x512x2816_S1x512x1408_0_0_1408))
        (View.ld (iblk m c 4 t) (Rect.unit ![1, 0, 0] ![1, 1024, 1408] inb_S4x1024x1408_S1x1024x1408_1_0_0)))
      (k0_pay11 (View.ld (iblk m c 3 t) (Rect.unit ![1, 0, 0] ![1, 512, 1408] inb_S2x512x2816_S1x512x1408_1_0_0)))
      (View.ld (iblk m c 4 t) (Rect.unit ![2, 0, 0] ![1, 1024, 1408] inb_S4x1024x1408_S1x1024x1408_2_0_0))
      (View.ld (iblk m c 3 t) (Rect.unit ![1, 0, 1408] ![1, 512, 1408] inb_S2x512x2816_S1x512x1408_1_0_1408))
      (View.ld (iblk m c 4 t) (Rect.unit ![3, 0, 0] ![1, 1024, 1408] inb_S4x1024x1408_S1x1024x1408_3_0_0))
      acc (ix2 s j)
    = acc (ix2 s j) + ∑ x : Fin 64, dh (D m c) (W m c) (row t (sub x s)) j := by
  pointwise [k0_pay14, k0_pay12, k0_pay11, k0_pay10]
  simp only [rd3, rd4]
  exact congrArg (acc (ix2 s j) + ·) (Finset.sum_congr rfl fun x _ => dh_tiles m c _ j)

/-- What the body adds to the scale's partial sums. -/
theorem pay_dscale (c : Dev nD) (t : Fin cfg0.N) (acc : FVec Ideal S8x1024 .f32) (s : Fin 8) (j : Fin 1024) :
    k0_pay1 (k0_pay15 acc) (k0_pay16 (k0_pay9 (iblk m c 0 t))
      (k0_pay10 (View.ld (iblk m c 3 t) (Rect.unit ![0, 0, 0] ![1, 512, 1408] inb_S2x512x2816_S1x512x1408_0_0_0))
        (View.ld (iblk m c 4 t) (Rect.unit ![0, 0, 0] ![1, 1024, 1408] inb_S4x1024x1408_S1x1024x1408_0_0_0))
        (View.ld (iblk m c 3 t) (Rect.unit ![0, 0, 1408] ![1, 512, 1408] inb_S2x512x2816_S1x512x1408_0_0_1408))
        (View.ld (iblk m c 4 t) (Rect.unit ![1, 0, 0] ![1, 1024, 1408] inb_S4x1024x1408_S1x1024x1408_1_0_0)))
      (k0_pay11 (View.ld (iblk m c 3 t) (Rect.unit ![1, 0, 0] ![1, 512, 1408] inb_S2x512x2816_S1x512x1408_1_0_0)))
      (View.ld (iblk m c 4 t) (Rect.unit ![2, 0, 0] ![1, 1024, 1408] inb_S4x1024x1408_S1x1024x1408_2_0_0))
      (View.ld (iblk m c 3 t) (Rect.unit ![1, 0, 1408] ![1, 512, 1408] inb_S2x512x2816_S1x512x1408_1_0_1408))
      (View.ld (iblk m c 4 t) (Rect.unit ![3, 0, 0] ![1, 1024, 1408] inb_S4x1024x1408_S1x1024x1408_3_0_0))) (ix2 s j)
    = acc (ix2 s j) + ∑ x : Fin 64, dh (D m c) (W m c) (row t (sub x s)) j
        * (X m c (row t (sub x s)) j * rinv (X m c (row t (sub x s)))) := by
  pointwise [k0_pay1, k0_pay15, k0_pay16, k0_pay12, k0_pay11, k0_pay10, k0_pay9, k0_pay8, k0_pay7]
  simp only [rd0, rd3, rd4]
  exact congrArg (acc (ix2 s j) + ·) (Finset.sum_congr rfl fun x _ => congrArg (· * _) (dh_tiles m c _ j))

/-- What the body computes for a block of the branch's rows, from the block of the gradient of the rows. -/
theorem pay_dy (c : Dev nD) (t : Fin cfg0.N) (p : FVec Ideal S512x1024 .f32) (u : Fin 1) (r : Fin 512) (j : Fin 1024) :
    k0_pay2 p (iblk m c 6 t) (ix3 u r j) = p (ix2 r j) * G m c j := by
  pointwise [k0_pay2]
  simp only [rd6]

/-- What the body adds to the gate's partial sums, from the block of the gradient of the rows. -/
theorem pay_dgate (c : Dev nD) (t : Fin cfg0.N) (p : FVec Ideal S512x1024 .f32) (acc : FVec Ideal S8x1024 .f32)
    (s : Fin 8) (j : Fin 1024) : k0_pay3 p acc (iblk m c 5 t) (ix2 s j)
      = acc (ix2 s j) + ∑ x : Fin 64, p (ix2 (sub x s) j) * Y m c (row t (sub x s)) j := by
  pointwise [k0_pay3]
  exact congrArg (acc (ix2 s j) + ·) (Finset.sum_congr rfl fun x _ => congrArg (_ * ·) (rd5 m c t (sub x s) j))

/-- The gradient of the rows. -/
theorem final_dx (c : Dev nD) : (dats m 0 c).arrAt 7 cfg0.N = fun y : S4096x1024.Idx => DX m c (y 0) (y 1) := by
  refine (dats m 0 c).arrAt_eq_of_covers 7 _ (by decide +kernel) fun t hf y => ?_
  blk_simp
  rw [after0_7]
  change S512x1024.Idx at y
  idx_vars y
  have hr : (win0_7.blk t).view.emb (ix2 y0 y1) = ix2 (row t y0) y1 := by
    unfold row
    blk_ext [idx t]
  rw [hr]
  by_cases h : t.val % 8 = 0
  · rw [outsAt0_A m c t h]; frame_out
    exact pay_dx m c t y0 y1
  · rw [outsAt0_B m c t h]; frame_out
    exact pay_dx m c t y0 y1

/-- The gradient of the branch's rows. -/
theorem final_dy (c : Dev nD) : (dats m 0 c).arrAt 10 cfg0.N
    = fun y : S1x4096x1024.Idx => DX m c (y 1) (y 2) * G m c (y 2) := by
  refine (dats m 0 c).arrAt_eq_of_covers 10 _ (by decide +kernel) fun t hf y => ?_
  blk_simp
  rw [after0_10]
  change S1x512x1024.Idx at y
  idx_vars y
  have hr : (win0_10.blk t).view.emb (ix3 y0 y1 y2) = ix3 y0 (row t y1) y2 := by
    unfold row
    blk_ext [idx t]
  rw [hr]
  by_cases h : t.val % 8 = 0
  · rw [outsAt0_A m c t h]; frame_out
    exact (pay_dy m c t _ y0 y1 y2).trans (congrArg (· * _) (pay_dx m c t y1 y2))
  · rw [outsAt0_B m c t h]; frame_out
    exact (pay_dy m c t _ y0 y1 y2).trans (congrArg (· * _) (pay_dx m c t y1 y2))

/-- The shift's partial sums after the last grid point. -/
theorem acc_dshift (c : Dev nD) (s : Fin 8) (j : Fin 1024) :
    ((outsAt0 m c t0_7.val t0_7.isLt).2.1 : S8x1024.Idx → EReal) (ix2 s j) = ∑ q : Fin 512, dh (D m c) (W m c) (group q s) j := by
  rw [Pipeline.eq_sum_fin_of_reset_step_apply_last (fun n h => ((outsAt0 m c n h).2.1 : S8x1024.Idx → EReal)) 8
      (fun _ => (0 : EReal)) (fun t y => (∑ x : Fin 64, dh (D m c) (W m c) (row t (sub x (y 0))) (y 1) : EReal))
      (fun t h y => by
        rw [outsAt0_A m c t h]; frame_out
        idx_vars y
        refine (pay_dshift m c t _ y0 y1).trans ?_
        pointwise [k0_pay4])
      (fun t h y => by
        rw [outsAt0_B m c t h]; frame_out
        idx_vars y
        exact pay_dshift m c t _ y0 y1)
      (le_of_eq N_0) t0_7 rfl (ix2 s j), zero_add]
  refine sum_groups _ (fun t x => _) fun t x hl => ?_
  refine congrArg (fun i => dh (D m c) (W m c) i j) (Fin.ext ?_)
  show t.val * 512 + (x.val * 8 + s.val) = (t.val * 64 + x.val) * 8 + s.val
  omega

/-- The gradient of the shift. -/
theorem final_dshift (c : Dev nD) : (dats m 0 c).arrAt 8 cfg0.N
    = fun y : S8x1024.Idx => (∑ q : Fin 512, dh (D m c) (W m c) (group q (y 0)) (y 1) : EReal) := by
  refine (dats m 0 c).arrAt_eq_of_after_last 8 t0_7 (by decide +kernel) _ fun y => ?_
  blk_simp
  rw [after0_8]
  change S8x1024.Idx at y
  idx_vars y
  exact acc_dshift m c y0 y1

/-- The scale's partial sums after the last grid point. -/
theorem acc_dscale (c : Dev nD) (s : Fin 8) (j : Fin 1024) :
    ((outsAt0 m c t0_7.val t0_7.isLt).2.2.1 : S8x1024.Idx → EReal) (ix2 s j) = ∑ q : Fin 512, dh (D m c) (W m c) (group q s) j * (X m c (group q s) j * rinv (X m c (group q s))) := by
  rw [Pipeline.eq_sum_fin_of_reset_step_apply_last (fun n h => ((outsAt0 m c n h).2.2.1 : S8x1024.Idx → EReal)) 8
      (fun _ => (0 : EReal)) (fun t y => (∑ x : Fin 64, dh (D m c) (W m c) (row t (sub x (y 0))) (y 1) * (X m c (row t (sub x (y 0))) (y 1) * rinv (X m c (row t (sub x (y 0))))) : EReal))
      (fun t h y => by
        rw [outsAt0_A m c t h]; frame_out
        idx_vars y
        refine (pay_dscale m c t _ y0 y1).trans ?_
        pointwise [k0_pay5])
      (fun t h y => by
        rw [outsAt0_B m c t h]; frame_out
        idx_vars y
        exact pay_dscale m c t _ y0 y1)
      (le_of_eq N_0) t0_7 rfl (ix2 s j), zero_add]
  refine sum_groups _ (fun t x => _) fun t x hl => ?_
  refine congrArg (fun i => dh (D m c) (W m c) i j * (X m c i j * rinv (X m c i))) (Fin.ext ?_)
  show t.val * 512 + (x.val * 8 + s.val) = (t.val * 64 + x.val) * 8 + s.val
  omega

/-- The gradient of the scale. -/
theorem final_dscale (c : Dev nD) : (dats m 0 c).arrAt 9 cfg0.N
    = fun y : S8x1024.Idx => (∑ q : Fin 512, dh (D m c) (W m c) (group q (y 0)) (y 1) * (X m c (group q (y 0)) (y 1) * rinv (X m c (group q (y 0)))) : EReal) := by
  refine (dats m 0 c).arrAt_eq_of_after_last 9 t0_7 (by decide +kernel) _ fun y => ?_
  blk_simp
  rw [after0_9]
  change S8x1024.Idx at y
  idx_vars y
  exact acc_dscale m c y0 y1

/-- The gate's partial sums after the last grid point. -/
theorem acc_dgate (c : Dev nD) (s : Fin 8) (j : Fin 1024) :
    ((outsAt0 m c t0_7.val t0_7.isLt).2.2.2.2 : S8x1024.Idx → EReal) (ix2 s j) = ∑ q : Fin 512, DX m c (group q s) j * Y m c (group q s) j := by
  rw [Pipeline.eq_sum_fin_of_reset_step_apply_last (fun n h => ((outsAt0 m c n h).2.2.2.2 : S8x1024.Idx → EReal)) 8
      (fun _ => (0 : EReal)) (fun t y => (∑ x : Fin 64, DX m c (row t (sub x (y 0))) (y 1) * Y m c (row t (sub x (y 0))) (y 1) : EReal))
      (fun t h y => by
        rw [outsAt0_A m c t h]; frame_out
        idx_vars y
        refine ((pay_dgate m c t _ _ y0 y1).trans (congrArg (_ + ·) (Finset.sum_congr rfl fun x _ => congrArg (· * _) (pay_dx m c t (sub x y0) y1)))).trans ?_
        pointwise [k0_pay6])
      (fun t h y => by
        rw [outsAt0_B m c t h]; frame_out
        idx_vars y
        exact (pay_dgate m c t _ _ y0 y1).trans (congrArg (_ + ·) (Finset.sum_congr rfl fun x _ => congrArg (· * _) (pay_dx m c t (sub x y0) y1))))
      (le_of_eq N_0) t0_7 rfl (ix2 s j), zero_add]
  refine sum_groups _ (fun t x => _) fun t x hl => ?_
  refine congrArg (fun i => DX m c i j * Y m c i j) (Fin.ext ?_)
  show t.val * 512 + (x.val * 8 + s.val) = (t.val * 64 + x.val) * 8 + s.val
  omega

/-- The gradient of the gate. -/
theorem final_dgate (c : Dev nD) : (dats m 0 c).arrAt 11 cfg0.N
    = fun y : S8x1024.Idx => (∑ q : Fin 512, DX m c (group q (y 0)) (y 1) * Y m c (group q (y 0)) (y 1) : EReal) := by
  refine (dats m 0 c).arrAt_eq_of_after_last 11 t0_7 (by decide +kernel) _ fun y => ?_
  blk_simp
  rw [after0_11]
  change S8x1024.Idx at y
  idx_vars y
  exact acc_dgate m c y0 y1

end Cert.Premix.Second

end
-- ==== Proof.Premix.SecondClaim.lean ====
/- The claim about the gradient of a feed-forward block's normalisation and up-projection. -/
module

public import proofs.«01_k».proof.Defs
public import proofs.«01_k».proof.Proof.Premix.SecondRef
public import proofs.«01_k».proof.Proof.Premix.Second

@[expose] public section

set_option maxRecDepth 16384

noncomputable section

open Idealize.ShloMosaic Idealize.ShloMosaic.TcCoe Idealize.SL.Sem

namespace Cert.Premix.Second

set_option maxHeartbeats 1600000 in
/-- The kernel's gradients are the derivative's. -/
theorem algebraic : Cert.algebraic_Kernel2Ideal_Reference2Ideal := by
  pair_intro
  · run_from Cert.Kernel2Ideal.Gen.run_main m g
  · run_from Cert.Reference2Ideal.Value.run m' g'
    · obtain ⟨h0, h1, h2, h3, h4, h5, h6⟩ := hagree c
      rw [final_dx m c]
      funext y
      idx_vars y
      exact ref_dx m' c _ _ _ _ _ _ _ h0 h1 h2 h3 h4 h5 h6 y0 y1
    · rw [final_dshift m c]
      funext y
      idx_vars y
      exact ref_dshift _ _ y0 y1
    · rw [final_dscale m c]
      funext y
      idx_vars y
      exact ref_dscale _ _ _ _ _ y0 y1
    · obtain ⟨h0, h1, h2, h3, h4, h5, h6⟩ := hagree c
      rw [final_dy m c]
      funext y
      idx_vars y
      exact ref_dy m' c _ _ _ _ _ _ _ h0 h1 h2 h3 h4 h5 h6 y0 y1 y2
    · obtain ⟨h0, h1, h2, h3, h4, h5, h6⟩ := hagree c
      rw [final_dgate m c]
      funext y
      idx_vars y
      exact ref_dgate m' c _ _ _ _ _ _ _ h0 h1 h2 h3 h4 h5 h6 y0 y1

end Cert.Premix.Second

end
-- ==== Proof.Conv.Base.lean ====
/- The mathematics of the gated convolution's gradient, over one column of the arrays: a causal convolution of
   three taps, `silu(gate) * value`, and what its reverse leaves. Everything over the extended reals. -/
module

public import Idealize.ShloMosaic.Lib.Pipeline.ValueKit
public import Idealize.ShloMosaic.Lib.Claim
public import proofs.«01_k».proof.Proof.Premix.Row

@[expose] public section

noncomputable section

open Idealize.ShloMosaic

namespace Cert.Conv

/-- A column moved `k` rows down, zero where there is no row. -/
def back (k : ℕ) (u : Fin 4096 → EReal) (n : Fin 4096) : EReal :=
  if n.val < k then 0 else u ⟨n.val - k, by omega⟩

/-- A column read at any row number, zero past its end. -/
def ext (d : Fin 4096 → EReal) (n : ℕ) : EReal := if h : n < 4096 then d ⟨n, h⟩ else 0

/-- The convolution of one column. -/
def conv (w : Fin 3 → EReal) (b : EReal) (u : Fin 4096 → EReal) (n : Fin 4096) : EReal :=
  w 2 * u n + w 1 * back 1 u n + w 0 * back 2 u n + b

/-- The gradient of `silu(g) * v` for `v`, the cotangent being `a`. -/
def dval (a g : EReal) : EReal := a * g * Ideal.logistic g

/-- The gradient of `silu(g) * v` for `g`. -/
def dgate (a g v : EReal) : EReal :=
  a * v * (Ideal.logistic g * (1 + g * (1 - Ideal.logistic g)))

/-- The gradient of the convolution for its input, `d` being the cotangent of what it leaves. -/
def dinput (w : Fin 3 → EReal) (d : Fin 4096 → EReal) (n : Fin 4096) : EReal :=
  w 2 * d n + w 1 * ext d (n.val + 1) + w 0 * ext d (n.val + 2)

/-- Row `8 q + s`. -/
def group8 (q : Fin 512) (s : Fin 8) : Fin 4096 := ⟨q.val * 8 + s.val, by omega⟩

/-- What row `n` adds to entry `k` of the gradients of the taps and of the bias: a tap's for `k` below three, the
    bias's for `k = 3`. -/
def entry (k : Fin 4) (d u : Fin 4096 → EReal) (n : Fin 4096) : EReal :=
  if k.val = 3 then d n else ext d (n.val + (2 - k.val)) * u n

theorem ext_fin (d : Fin 4096 → EReal) (n : Fin 4096) : ext d n.val = d n := by
  simp [ext]

theorem dgate_zero (g v : EReal) : dgate 0 g v = 0 := by simp [dgate]
theorem dval_zero (g : EReal) : dval 0 g = 0 := by simp [dval]

/-- A tap times a moved column is the moved column of products. -/
theorem back_mul (k : ℕ) (w : EReal) (u : Fin 4096 → EReal) (n : Fin 4096) :
    back k (fun r => w * u r) n = w * back k u n := by
  unfold back; split <;> simp

/-- The two ways of writing the gradient for the gate agree where the values are real. -/
theorem dgate_eq (a g v : ℝ) :
    ((a : EReal) * v) * Ideal.logistic g + ((g : EReal) * ((a : EReal) * v))
      * (Ideal.logistic g * (1 - Ideal.logistic g)) = dgate a g v := by
  unfold dgate
  rw [Ideal.logistic_coe]
  norm_cast
  push_cast
  norm_cast
  ring

/-- A value of absolute value below infinity is a real number. -/
theorem real_of_finite {x : EReal} (h : max x (-x) < ⊤) : ∃ r : ℝ, x = r := by
  induction x with
  | bot => simp at h
  | top => simp at h
  | coe r => exact ⟨r, rfl⟩

/-- A value is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, by norm_cast⟩

theorem IsReal.mul {x y : EReal} (hx : IsReal x) (hy : IsReal y) : IsReal (x * y) := by
  obtain ⟨a, rfl⟩ := hx; obtain ⟨b, rfl⟩ := hy; exact ⟨a * b, by norm_cast⟩

theorem real_zero : IsReal 0 := ⟨0, by norm_cast⟩

theorem IsReal.sum {ι : Type} (s : Finset ι) {f : ι → EReal} (h : ∀ i, IsReal (f i)) : IsReal (∑ i ∈ s, f i) := by
  classical
  induction s using Finset.induction_on with
  | empty => simpa using real_zero
  | insert i s hi ih => rw [Finset.sum_insert hi]; exact (h i).add ih

theorem real_back {k : ℕ} {u : Fin 4096 → EReal} (h : ∀ n, IsReal (u n)) (n : Fin 4096) : IsReal (back k u n) := by
  unfold back; split
  · exact real_zero
  · exact h _

theorem real_conv {w : Fin 3 → EReal} {b : EReal} {u : Fin 4096 → EReal} (hw : ∀ k, IsReal (w k)) (hb : IsReal b)
    (hu : ∀ n, IsReal (u n)) (n : Fin 4096) : IsReal (conv w b u n) :=
  ((((hw 2).mul (hu n)).add ((hw 1).mul (real_back hu n))).add ((hw 0).mul (real_back hu n))).add hb

/-- The same for values known to be real. -/
theorem dgate_eq' {a g v : EReal} (ha : IsReal a) (hg : IsReal g) (hv : IsReal v) :
    (a * v) * Ideal.logistic g + (g * (a * v)) * (Ideal.logistic g * (1 - Ideal.logistic g)) = dgate a g v := by
  obtain ⟨a, rfl⟩ := ha; obtain ⟨g, rfl⟩ := hg; obtain ⟨v, rfl⟩ := hv
  exact dgate_eq a g v

end Cert.Conv
-- ==== Proof.Conv.Ref.lean ====
/- What the reference of the gated convolution's gradient (program `Reference3Ideal`) computes, entry by entry. -/
module

public import proofs.«01_k».proof.Proof.Gen.Reference3Ideal.Run
public import Idealize.ShloMosaic.Lib.Pipeline.ValueKit
public import Idealize.ShloMosaic.Lib.Claim
public import proofs.«01_k».proof.Proof.Conv.Base

@[expose] public section

set_option maxRecDepth 16384

noncomputable section

open Idealize.ShloMosaic Idealize.ShloMosaic.TcCoe Idealize.SL.Sem

namespace Cert.Conv.Ref
open Cert.Reference3Ideal Cert.Reference3Ideal.Gen Idealize.ShloMosaic.StableHlo

/-- The first tap, once per row. -/
def tap0V (cw : FVec Ideal S3x5632 .f32) : FVec Ideal S4096x5632 .f32 :=
  (shapeCast _ (broadcastInDim S512x8x5632 ![0, 1, 2] bcast_S1x8x5632_S512x8x5632_0_1_2 (broadcastInDim S1x8x5632 ![1, 2] bcast_S8x5632_S1x8x5632_1_2 (broadcastInDim S8x5632 ![0, 1] bcast_S1x5632_S8x5632_0_1 (broadcastInDim S1x5632 ![1] bcast_S5632_S1x5632_1 (shapeCast _ (extractStridedSlice S1x5632 ![0, 0] cw slices_S3x5632_S1x5632_0_0) shapeCasts_S1x5632_S5632))))) shapeCasts_S512x8x5632_S4096x5632)

/-- The second tap, once per row. -/
def tap1V (cw : FVec Ideal S3x5632 .f32) : FVec Ideal S4096x5632 .f32 :=
  (shapeCast _ (broadcastInDim S512x8x5632 ![0, 1, 2] bcast_S1x8x5632_S512x8x5632_0_1_2 (broadcastInDim S1x8x5632 ![1, 2] bcast_S8x5632_S1x8x5632_1_2 (broadcastInDim S8x5632 ![0, 1] bcast_S1x5632_S8x5632_0_1 (broadcastInDim S1x5632 ![1] bcast_S5632_S1x5632_1 (shapeCast _ (extractStridedSlice S1x5632 ![1, 0] cw slices_S3x5632_S1x5632_1_0) shapeCasts_S1x5632_S5632))))) shapeCasts_S512x8x5632_S4096x5632)

/-- The third tap, once per row. -/
def tap2V (cw : FVec Ideal S3x5632 .f32) : FVec Ideal S4096x5632 .f32 :=
  (shapeCast _ (broadcastInDim S512x8x5632 ![0, 1, 2] bcast_S1x8x5632_S512x8x5632_0_1_2 (broadcastInDim S1x8x5632 ![1, 2] bcast_S8x5632_S1x8x5632_1_2 (broadcastInDim S8x5632 ![0, 1] bcast_S1x5632_S8x5632_0_1 (broadcastInDim S1x5632 ![1] bcast_S5632_S1x5632_1 (shapeCast _ (extractStridedSlice S1x5632 ![2, 0] cw slices_S3x5632_S1x5632_2_0) shapeCasts_S1x5632_S5632))))) shapeCasts_S512x8x5632_S4096x5632)

/-- The convolution. -/
def convV (u : FVec Ideal S4096x5632 .f32) (cw : FVec Ideal S3x5632 .f32) (cb : FVec Ideal S5632 .f32) : FVec Ideal S4096x5632 .f32 :=
  (addf (addf (addf (mulf (tap2V cw) u) (concatenate S4096x5632 0 [⟨S1x5632, (broadcastInDim S1x5632 ![] bcast_S_S1x5632 (constant S_ .f32 0x00000000#32))⟩, ⟨S4095x5632, (extractStridedSlice S4095x5632 ![0, 0] (mulf (tap1V cw) u) slices_S4096x5632_S4095x5632_0_0)⟩] concatenates_S1x5632_S4095x5632_S4096x5632_d0)) (concatenate S4096x5632 0 [⟨S2x5632, (broadcastInDim S2x5632 ![] bcast_S_S2x5632 (constant S_ .f32 0x00000000#32))⟩, ⟨S4094x5632, (extractStridedSlice S4094x5632 ![0, 0] (mulf (tap0V cw) u) slices_S4096x5632_S4094x5632_0_0)⟩] concatenates_S2x5632_S4094x5632_S4096x5632_d0)) (shapeCast _ (broadcastInDim S512x8x5632 ![0, 1, 2] bcast_S1x8x5632_S512x8x5632_0_1_2 (broadcastInDim S1x8x5632 ![1, 2] bcast_S8x5632_S1x8x5632_1_2 (broadcastInDim S8x5632 ![0, 1] bcast_S1x5632_S8x5632_0_1 (broadcastInDim S1x5632 ![1] bcast_S5632_S1x5632_1 cb)))) shapeCasts_S512x8x5632_S4096x5632))

/-- The logistic function of the gates. -/
def sigV (u : FVec Ideal S4096x5632 .f32) (cw : FVec Ideal S3x5632 .f32) (cb : FVec Ideal S5632 .f32) : FVec Ideal S4096x2816 .f32 :=
  (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (convV u cw cb) slices_S4096x5632_S4096x2816_0_0)))))

/-- The cotangent of the gated values. -/
def daV (df : FVec Ideal S4096x1024 .f32) (wd : FVec Ideal S2816x1024 .f32) : FVec Ideal S4096x2816 .f32 :=
  (Host.dotGeneral dot_S4096x1024_S2816x1024_S4096x2816_1_1_0_0_n_n none df wd)

/-- The cotangent of the convolution. -/
def dconvV (u : FVec Ideal S4096x5632 .f32) (cw : FVec Ideal S3x5632 .f32) (cb : FVec Ideal S5632 .f32) (wd : FVec Ideal S2816x1024 .f32) (df : FVec Ideal S4096x1024 .f32) : FVec Ideal S4096x5632 .f32 :=
  (concatenate S4096x5632 1 [⟨S4096x2816, (addf (mulf (mulf (daV df wd) (extractStridedSlice S4096x2816 ![0, 2816] (convV u cw cb) slices_S4096x5632_S4096x2816_0_2816)) (sigV u cw cb)) (mulf (mulf (extractStridedSlice S4096x2816 ![0, 0] (convV u cw cb) slices_S4096x5632_S4096x2816_0_0) (mulf (daV df wd) (extractStridedSlice S4096x2816 ![0, 2816] (convV u cw cb) slices_S4096x5632_S4096x2816_0_2816))) (mulf (sigV u cw cb) (subf (broadcastInDim S4096x2816 ![] bcast_S_S4096x2816 (constant S_ .f32 0x3F800000#32)) (sigV u cw cb)))))⟩, ⟨S4096x2816, (mulf (mulf (extractStridedSlice S4096x2816 ![0, 0] (convV u cw cb) slices_S4096x5632_S4096x2816_0_0) (sigV u cw cb)) (daV df wd))⟩] concatenates_S4096x2816_S4096x2816_S4096x5632_d1)

/-- The rows moved one up. -/
def pad1V (d : FVec Ideal S4096x5632 .f32) : FVec Ideal S4096x5632 .f32 :=
  (pad S4096x5632 ![0, 0] ![1, 0] ![0, 0] (extractStridedSlice S4095x5632 ![1, 0] d slices_S4096x5632_S4095x5632_1_0) (constant S_ .f32 0x00000000#32) pads_S4095x5632_S4096x5632_010_000 h_S_)

/-- The rows moved two up. -/
def pad2V (d : FVec Ideal S4096x5632 .f32) : FVec Ideal S4096x5632 .f32 :=
  (pad S4096x5632 ![0, 0] ![2, 0] ![0, 0] (extractStridedSlice S4094x5632 ![2, 0] d slices_S4096x5632_S4094x5632_2_0) (constant S_ .f32 0x00000000#32) pads_S4094x5632_S4096x5632_020_000 h_S_)

/-- The gradient of the input, from the cotangent of the convolution. -/
def duV (cw : FVec Ideal S3x5632 .f32) (d : FVec Ideal S4096x5632 .f32) : FVec Ideal S2x4096x2816 .bf16 :=
  truncf .bf16 (transpose S2x4096x2816 [1, 0, 2] (shapeCast _ (addf (addf (mulf (tap0V cw) (pad2V d)) (mulf (tap1V cw) (pad1V d))) (mulf (tap2V cw) d)) shapeCasts_S4096x5632_S4096x2x2816) transposes_S4096x2x2816_S2x4096x2816_1_0_2) bitsLt_bf16_f32

/-- The partial sums, from the cotangent of the convolution. -/
def accV (u d : FVec Ideal S4096x5632 .f32) : FVec Ideal S2x4x8x2816 .f32 :=
  (concatenate S2x4x8x2816 1 [⟨S2x1x8x2816, ((broadcastInDim S2x1x8x2816 ![0, 2, 3] bcast_S2x8x2816_S2x1x8x2816_0_2_3 (transpose S2x8x2816 [1, 0, 2] (shapeCast _ (Host.reduceAdd (broadcastInDim S1x8x5632 ![1, 2] bcast_S8x5632_S1x8x5632_1_2 (Host.reduceAdd (shapeCast _ (mulf (pad2V d) u) shapeCasts_S4096x5632_S512x8x5632) (constant S_ .f32 0x00000000#32) reducesTo_S512x8x5632_S8x5632_d0 h_S_)) (constant S_ .f32 0x00000000#32) reducesTo_S1x8x5632_S8x5632_d0 h_S_) shapeCasts_S8x5632_S8x2x2816) transposes_S8x2x2816_S2x8x2816_1_0_2)) : (⟨S2x1x8x2816, .f32⟩ : BufTy).Contents (Elt Ideal))⟩, ⟨S2x1x8x2816, ((broadcastInDim S2x1x8x2816 ![0, 2, 3] bcast_S2x8x2816_S2x1x8x2816_0_2_3 (transpose S2x8x2816 [1, 0, 2] (shapeCast _ (Host.reduceAdd (broadcastInDim S1x8x5632 ![1, 2] bcast_S8x5632_S1x8x5632_1_2 (Host.reduceAdd (shapeCast _ (mulf (pad1V d) u) shapeCasts_S4096x5632_S512x8x5632) (constant S_ .f32 0x00000000#32) reducesTo_S512x8x5632_S8x5632_d0 h_S_)) (constant S_ .f32 0x00000000#32) reducesTo_S1x8x5632_S8x5632_d0 h_S_) shapeCasts_S8x5632_S8x2x2816) transposes_S8x2x2816_S2x8x2816_1_0_2)) : (⟨S2x1x8x2816, .f32⟩ : BufTy).Contents (Elt Ideal))⟩, ⟨S2x1x8x2816, ((broadcastInDim S2x1x8x2816 ![0, 2, 3] bcast_S2x8x2816_S2x1x8x2816_0_2_3 (transpose S2x8x2816 [1, 0, 2] (shapeCast _ (Host.reduceAdd (broadcastInDim S1x8x5632 ![1, 2] bcast_S8x5632_S1x8x5632_1_2 (Host.reduceAdd (shapeCast _ (mulf d u) shapeCasts_S4096x5632_S512x8x5632) (constant S_ .f32 0x00000000#32) reducesTo_S512x8x5632_S8x5632_d0 h_S_)) (constant S_ .f32 0x00000000#32) reducesTo_S1x8x5632_S8x5632_d0 h_S_) shapeCasts_S8x5632_S8x2x2816) transposes_S8x2x2816_S2x8x2816_1_0_2)) : (⟨S2x1x8x2816, .f32⟩ : BufTy).Contents (Elt Ideal))⟩, ⟨S2x1x8x2816, ((broadcastInDim S2x1x8x2816 ![0, 2, 3] bcast_S2x8x2816_S2x1x8x2816_0_2_3 (transpose S2x8x2816 [1, 0, 2] (shapeCast _ (Host.reduceAdd (broadcastInDim S1x8x5632 ![1, 2] bcast_S8x5632_S1x8x5632_1_2 (Host.reduceAdd (shapeCast _ d shapeCasts_S4096x5632_S512x8x5632) (constant S_ .f32 0x00000000#32) reducesTo_S512x8x5632_S8x5632_d0 h_S_)) (constant S_ .f32 0x00000000#32) reducesTo_S1x8x5632_S8x5632_d0 h_S_) shapeCasts_S8x5632_S8x2x2816) transposes_S8x2x2816_S2x8x2816_1_0_2)) : (⟨S2x1x8x2816, .f32⟩ : BufTy).Contents (Elt Ideal))⟩] concatenates_S2x1x8x2816_S2x1x8x2816_S2x1x8x2816_S2x1x8x2816_S2x4x8x2816_d1 : (⟨S2x4x8x2816, .f32⟩ : BufTy).Contents (Elt Ideal))

theorem res0_eq (m : (ℓ : Loc nD τ sig) → Buf (Elt Ideal) ℓ) (c : Dev nD) (u : FVec Ideal S4096x5632 .f32) (cw : FVec Ideal S3x5632 .f32)
    (cb : FVec Ideal S5632 .f32) (wd : FVec Ideal S2816x1024 .f32) (df : FVec Ideal S4096x1024 .f32)
    (h0 : m (c.tc.loc main_arg0) = u) (h1 : m (c.tc.loc main_arg1) = cw) (h2 : m (c.tc.loc main_arg2) = cb)
    (h3 : m (c.tc.loc main_arg3) = wd) (h4 : m (c.tc.loc main_arg4) = df) :
    (Value.res_out0 m c : FVec Ideal S2x4096x2816 .bf16) = duV cw (dconvV u cw cb wd df) := by
  subst h0 h1 h2 h3 h4
  rfl

theorem res1_eq (m : (ℓ : Loc nD τ sig) → Buf (Elt Ideal) ℓ) (c : Dev nD) (u : FVec Ideal S4096x5632 .f32) (cw : FVec Ideal S3x5632 .f32)
    (cb : FVec Ideal S5632 .f32) (wd : FVec Ideal S2816x1024 .f32) (df : FVec Ideal S4096x1024 .f32)
    (h0 : m (c.tc.loc main_arg0) = u) (h1 : m (c.tc.loc main_arg1) = cw) (h2 : m (c.tc.loc main_arg2) = cb)
    (h3 : m (c.tc.loc main_arg3) = wd) (h4 : m (c.tc.loc main_arg4) = df) :
    (Value.res_out1 m c : FVec Ideal S2x4x8x2816 .f32) = accV u (dconvV u cw cb wd df) := by
  subst h0 h1 h2 h3 h4
  rfl

/-- A column of an array. -/
def colm (u : FVec Ideal S4096x5632 .f32) (l : Fin 5632) (n : Fin 4096) : EReal := u (ix2 n l)
/-- The taps of a column. -/
def taps (cw : FVec Ideal S3x5632 .f32) (l : Fin 5632) (k : Fin 3) : EReal := cw (ix2 k l)
/-- The bias of a column. -/
def bias (cb : FVec Ideal S5632 .f32) (l : Fin 5632) : EReal := cb (ix1 l)

theorem conv_at (u : FVec Ideal S4096x5632 .f32) (cw : FVec Ideal S3x5632 .f32) (cb : FVec Ideal S5632 .f32) (n : Fin 4096) (l : Fin 5632) :
    convV u cw cb (ix2 n l) = conv (taps cw l) (bias cb l) (colm u l) n := by
  have h1 := back_mul 1 (taps cw l 1) (colm u l) n
  have h2 := back_mul 2 (taps cw l 0) (colm u l) n
  unfold conv
  rw [← h1, ← h2]
  pointwise [convV, tap0V, tap1V, tap2V]
  rfl

theorem sig_at (u : FVec Ideal S4096x5632 .f32) (cw : FVec Ideal S3x5632 .f32) (cb : FVec Ideal S5632 .f32) (n : Fin 4096) (l : Fin 2816) :
    sigV u cw cb (ix2 n l) = Ideal.logistic (convV u cw cb (ix2 n ⟨l.val, by omega⟩)) := by
  pointwise [sigV]
  rfl

theorem da_at (df : FVec Ideal S4096x1024 .f32) (wd : FVec Ideal S2816x1024 .f32) (n : Fin 4096) (l : Fin 2816) :
    daV df wd (ix2 n l) = (∑ k : Fin 1024, df (ix2 n k) * wd (ix2 l k) : EReal) := by
  pointwise [daV]

theorem dconv_gate (u : FVec Ideal S4096x5632 .f32) (cw : FVec Ideal S3x5632 .f32) (cb : FVec Ideal S5632 .f32)
    (wd : FVec Ideal S2816x1024 .f32) (df : FVec Ideal S4096x1024 .f32) (n : Fin 4096) (l : Fin 2816) :
    dconvV u cw cb wd df (ix2 n ⟨l.val, by omega⟩)
      = daV df wd (ix2 n l) * convV u cw cb (ix2 n ⟨2816 + l.val, by omega⟩) * sigV u cw cb (ix2 n l)
        + convV u cw cb (ix2 n ⟨l.val, by omega⟩) * (daV df wd (ix2 n l) * convV u cw cb (ix2 n ⟨2816 + l.val, by omega⟩))
          * (sigV u cw cb (ix2 n l) * (1 - sigV u cw cb (ix2 n l))) := by
  pointwise [dconvV]

theorem dconv_val (u : FVec Ideal S4096x5632 .f32) (cw : FVec Ideal S3x5632 .f32) (cb : FVec Ideal S5632 .f32)
    (wd : FVec Ideal S2816x1024 .f32) (df : FVec Ideal S4096x1024 .f32) (n : Fin 4096) (l : Fin 2816) :
    dconvV u cw cb wd df (ix2 n ⟨2816 + l.val, by omega⟩)
      = convV u cw cb (ix2 n ⟨l.val, by omega⟩) * sigV u cw cb (ix2 n l) * daV df wd (ix2 n l) := by
  pointwise [dconvV]

/-- The rows moved `k` up, zero past the end, are a column read `k` rows on. -/
theorem moved (d : FVec Ideal S4096x5632 .f32) (k : ℕ) (n : Fin 4096) (l : Fin 5632) (h' : n.val < 4096 - k ∧ l.val < 5632 → k + n.val < 4096) :
    (if h : n.val < 4096 - k ∧ l.val < 5632 then (d (ix2 ⟨k + n.val, h' h⟩ l) : EReal) else 0) = ext (colm d l) (n.val + k) := by
  unfold ext
  by_cases h : n.val + k < 4096
  · rw [dif_pos ⟨by omega, l.isLt⟩, dif_pos h]
    exact congrArg (fun i => d (ix2 i l)) (Fin.ext (Nat.add_comm _ _))
  · rw [dif_neg (by omega), dif_neg h]

theorem swap (a b c : EReal) : a + b + c = c + b + a := by ac_rfl

theorem du_at (cw : FVec Ideal S3x5632 .f32) (d : FVec Ideal S4096x5632 .f32) (g : Fin 2) (n : Fin 4096) (l : Fin 2816) :
    duV cw d (ix3 g n l) = dinput (taps cw ⟨g.val * 2816 + l.val, by omega⟩) (colm d ⟨g.val * 2816 + l.val, by omega⟩) n := by
  pointwise [duV, tap0V, tap1V, tap2V, pad1V, pad2V]
  have h1 := moved d 1 n ⟨g.val * 2816 + l.val, by omega⟩ (by omega)
  have h2 := moved d 2 n ⟨g.val * 2816 + l.val, by omega⟩ (by omega)
  exact (congrArg₂ (fun x y : EReal => cw (ix2 0 ⟨g.val * 2816 + l.val, by omega⟩) * x
    + cw (ix2 1 ⟨g.val * 2816 + l.val, by omega⟩) * y + cw (ix2 2 ⟨g.val * 2816 + l.val, by omega⟩)
      * d (ix2 n ⟨g.val * 2816 + l.val, by omega⟩)) h2 h1).trans (swap _ _ _)

section
variable (u d : FVec Ideal S4096x5632 .f32) (g : Fin 2) (s : Fin 8) (l : Fin 2816)

theorem acc_at0 : accV u d (ix4 g 0 s l) = (∑ q : Fin 512, entry 0 (colm d ⟨g.val * 2816 + l.val, by omega⟩)
      (colm u ⟨g.val * 2816 + l.val, by omega⟩) (group8 q s) : EReal) := by
  pointwise [accV, pad1V, pad2V]
  simp only [Fin.sum_univ_one]
  exact Finset.sum_congr rfl fun q _ => congrArg (· * colm u ⟨g.val * 2816 + l.val, by omega⟩ (group8 q s))
    (moved d 2 (group8 q s) ⟨g.val * 2816 + l.val, by omega⟩ (by omega))

theorem acc_at1 : accV u d (ix4 g 1 s l) = (∑ q : Fin 512, entry 1 (colm d ⟨g.val * 2816 + l.val, by omega⟩)
      (colm u ⟨g.val * 2816 + l.val, by omega⟩) (group8 q s) : EReal) := by
  pointwise [accV, pad1V, pad2V]
  simp only [Fin.sum_univ_one]
  exact Finset.sum_congr rfl fun q _ => congrArg (· * colm u ⟨g.val * 2816 + l.val, by omega⟩ (group8 q s))
    (moved d 1 (group8 q s) ⟨g.val * 2816 + l.val, by omega⟩ (by omega))

theorem acc_at2 : accV u d (ix4 g 2 s l) = (∑ q : Fin 512, entry 2 (colm d ⟨g.val * 2816 + l.val, by omega⟩)
      (colm u ⟨g.val * 2816 + l.val, by omega⟩) (group8 q s) : EReal) := by
  pointwise [accV]
  simp only [Fin.sum_univ_one]
  exact Finset.sum_congr rfl fun q _ => congrArg (· * colm u ⟨g.val * 2816 + l.val, by omega⟩ (group8 q s))
    (ext_fin (colm d ⟨g.val * 2816 + l.val, by omega⟩) (group8 q s)).symm

theorem acc_at3 : accV u d (ix4 g 3 s l) = (∑ q : Fin 512, entry 3 (colm d ⟨g.val * 2816 + l.val, by omega⟩)
      (colm u ⟨g.val * 2816 + l.val, by omega⟩) (group8 q s) : EReal) := by
  pointwise [accV]
  simp only [Fin.sum_univ_one]
  rfl
end

theorem acc_at (u d : FVec Ideal S4096x5632 .f32) (g : Fin 2) (k : Fin 4) (s : Fin 8) (l : Fin 2816) :
    accV u d (ix4 g k s l) = (∑ q : Fin 512, entry k (colm d ⟨g.val * 2816 + l.val, by omega⟩)
      (colm u ⟨g.val * 2816 + l.val, by omega⟩) (group8 q s) : EReal) :=
  match k with
  | 0 => acc_at0 u d g s l
  | 1 => acc_at1 u d g s l
  | 2 => acc_at2 u d g s l
  | 3 => acc_at3 u d g s l

end Cert.Conv.Ref
-- ==== Proof.Conv.Reads.lean ====
/- What the gradient of the gated convolution (program `Kernel3Ideal`) reads at each grid point. -/
module

public import proofs.«01_k».proof.Proof.Gen.Kernel3Ideal.Value
public import Idealize.ShloMosaic.Lib.Pipeline.ValueKit
public import Idealize.ShloMosaic.Lib.Claim
public import proofs.«01_k».proof.Proof.Conv.Base

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen

variable (m : (ℓ : Loc nD τ sig) → Buf (Elt Ideal) ℓ)

/-- Which block each window reads or writes at a grid point: 16 blocks of rows for each of two blocks of columns. -/
theorem idx : ∀ t : Fin cfg0.N, win0_0.index t = ![0, t.val % 16, t.val / 16]
    ∧ win0_1.index t = ![0, t.val % 16, t.val / 16]
    ∧ win0_2.index t = ![0, min ((t.val % 16 + 1) * 16) 255, t.val / 16]
    ∧ win0_3.index t = ![0, t.val % 16, 0] ∧ win0_4.index t = ![0, min ((t.val % 16 + 1) * 16) 255, 0]
    ∧ win0_5.index t = ![0, t.val / 16, 0] ∧ win0_6.index t = ![0, 0, t.val / 16]
    ∧ win0_7.index t = ![0, t.val % 16, t.val / 16] ∧ win0_8.index t = ![0, 0, 0, t.val / 16] :=
  (by decide +kernel : ∀ t : Fin grid0.N, _)

/-- The scalar that clears the rows past the last block. -/
theorem last : ∀ t : Fin cfg0.N, (k0_pay2 (grid0.coords t) : Ideal .f32) = if t.val % 16 < 15 then (1 : EReal) else 0 := by
  intro t
  have h : ∀ t : Fin grid0.N, Scalar.cmpi .slt (BitVec.ofNat 32 (grid0.coords t 1).val) 15#32 = if t.val % 16 < 15 then 1#1 else 0#1 := by
    decide +kernel
  unfold k0_pay2
  simp only [h t]
  split <;> pointwise

/-- The convolution's input. -/
def U (c : Dev nD) (l : Fin 5632) (n : Fin 4096) : EReal := m (c.tc.loc main_arg0) (ix2 n l)
/-- The three taps. -/
def CW (c : Dev nD) (l : Fin 5632) (k : Fin 3) : EReal := m (c.tc.loc main_arg1) (ix2 k l)
/-- The bias. -/
def CB (c : Dev nD) (l : Fin 5632) : EReal := m (c.tc.loc main_arg2) (ix1 l)
/-- The second projection's weight. -/
def WD (c : Dev nD) (l : Fin 2816) (k : Fin 1024) : EReal := m (c.tc.loc main_arg3) (ix2 l k)
/-- The cotangent. -/
def DF (c : Dev nD) (n : Fin 4096) (k : Fin 1024) : EReal := m (c.tc.loc main_arg4) (ix2 n k)

/-- Column `l` of half `g`. -/
def half (g : Fin 2) (l : Fin 2816) : Fin 5632 := ⟨g.val * 2816 + l.val, by omega⟩

theorem lane_lt (t : Fin cfg0.N) (l : Fin 1408) : t.val / 16 * 1408 + l.val < 2816 := by
  have := t.isLt; have h : cfg0.N = 32 := N_0; omega

/-- Column `l` of the block of grid point `t`, within its half. -/
def lane (t : Fin cfg0.N) (l : Fin 1408) : Fin 2816 := ⟨t.val / 16 * 1408 + l.val, lane_lt t l⟩

/-- Row `r` of the block of grid point `t`. -/
def row (t : Fin cfg0.N) (r : Fin 256) : Fin 4096 := ⟨t.val % 16 * 256 + r.val, by omega⟩

/-- Row `r` of the sixteen rows that follow the block of grid point `t`. -/
def next (t : Fin cfg0.N) (r : Fin 16) : Fin 4096 := ⟨min ((t.val % 16 + 1) * 16) 255 * 16 + r.val, by omega⟩

theorem rd0 (c : Dev nD) (t : Fin cfg0.N) (g : Fin 2) (r : Fin 256) (l : Fin 1408) :
    iblk m c 0 t (ix3 g r l) = U m c (half g (lane t l)) (row t r) := by
  unfold U row half lane
  blk_point [iblk, V, idx t]

theorem rd3 (c : Dev nD) (t : Fin cfg0.N) (r : Fin 256) (k : Fin 1024) :
    iblk m c 3 t (ix3 0 r k) = DF m c (row t r) k := by
  unfold DF row
  blk_point [iblk, V, idx t]

theorem rd4 (c : Dev nD) (t : Fin cfg0.N) (r : Fin 16) (k : Fin 1024) :
    iblk m c 4 t (ix3 0 r k) = DF m c (next t r) k := by
  unfold DF next
  blk_point [iblk, V, idx t]

theorem rd5 (c : Dev nD) (t : Fin cfg0.N) (l : Fin 1408) (k : Fin 1024) :
    iblk m c 5 t (ix3 0 l k) = WD m c (lane t l) k := by
  unfold WD lane
  blk_point [iblk, V, idx t]

theorem rd6 (c : Dev nD) (t : Fin cfg0.N) (g : Fin 2) (k : Fin 3) (l : Fin 1408) :
    iblk m c 6 t (ix3 g k l) = CW m c (half g (lane t l)) k := by
  unfold CW half lane
  blk_point [iblk, V, idx t]

/-- The convolution of the array, as the host computes it. -/
theorem host_conv (c : Dev nD) (g : Fin 2) (n : Fin 4096) (l : Fin 2816) :
    V m c (Pipeline.arrRef spec0 1) (ix3 g n l)
      = conv (CW m c (half g l)) (CB m c (half g l)) (U m c (half g l)) n := by
  unfold V
  entry_read
  pointwise
  rfl

theorem rd1 (c : Dev nD) (t : Fin cfg0.N) (g : Fin 2) (r : Fin 256) (l : Fin 1408) :
    iblk m c 1 t (ix3 g r l) = conv (CW m c (half g (lane t l))) (CB m c (half g (lane t l)))
      (U m c (half g (lane t l))) (row t r) := by
  rw [← host_conv]
  have he : (win0_1.blk t).view.emb (ix3 g r l) = ix3 g (row t r) (lane t l) := by
    unfold row lane; blk_ext [idx t]
  blk_simp [iblk]; rw [he]

theorem rd2 (c : Dev nD) (t : Fin cfg0.N) (g : Fin 2) (r : Fin 16) (l : Fin 1408) :
    iblk m c 2 t (ix3 g r l) = conv (CW m c (half g (lane t l))) (CB m c (half g (lane t l)))
      (U m c (half g (lane t l))) (next t r) := by
  rw [← host_conv]
  have he : (win0_2.blk t).view.emb (ix3 g r l) = ix3 g (next t r) (lane t l) := by
    unfold next lane; blk_ext [idx t]
  blk_simp [iblk]; rw [he]

end Cert.Conv
-- ==== Proof.Conv.Tile.lean ====
/- What the gradient of the gated convolution (program `Kernel3Ideal`) computes for one block: the cotangents of
   the gates and of the values on the block's rows and on the sixteen rows after it. -/
module

public import proofs.«01_k».proof.Proof.Conv.Reads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen

variable (m : (ℓ : Loc nD τ sig) → Buf (Elt Ideal) ℓ)

/-- The cotangent of the gated values. -/
def DA (c : Dev nD) (p : Fin 2816) (n : Fin 4096) : EReal := ∑ k : Fin 1024, DF m c n k * WD m c p k
/-- The convolution. -/
def C (c : Dev nD) (l : Fin 5632) (n : Fin 4096) : EReal := conv (CW m c l) (CB m c l) (U m c l) n
/-- The cotangent of the convolution: of the gates (`g = 0`) and of the values. -/
def G (c : Dev nD) (g : Fin 2) (p : Fin 2816) (n : Fin 4096) : EReal :=
  if g.val = 0 then dgate (DA m c p n) (C m c (half 0 p) n) (C m c (half 1 p) n)
  else dval (DA m c p n) (C m c (half 0 p) n)

theorem row_next (t : Fin cfg0.N) (e : Fin 272) (h : ¬ e.val < 256) (hl : t.val % 16 < 15) :
    (next t ⟨e.val - 256, by omega⟩).val = t.val % 16 * 256 + e.val := by
  unfold next
  simp only
  omega

/-- The cotangents of the gates on the rows of a block and the sixteen after it. -/
theorem gate_at (c : Dev nD) (t : Fin cfg0.N) (e : Fin 272) (l : Fin 1408) :
    k0_pay12 (F := Ideal) (k0_pay2 (grid0.coords t))
      (k0_pay4 (View.ld (iblk m c 1 t) (Rect.unit ![0, 0, 0] ![1, 256, 1408] inb_S2x256x1408_S1x256x1408_0_0_0))
        (View.ld (iblk m c 2 t) (Rect.unit ![0, 0, 0] ![1, 16, 1408] inb_S2x16x1408_S1x16x1408_0_0_0)))
      (k0_pay5 (View.ld (iblk m c 1 t) (Rect.unit ![1, 0, 0] ![1, 256, 1408] inb_S2x256x1408_S1x256x1408_1_0_0))
        (View.ld (iblk m c 2 t) (Rect.unit ![1, 0, 0] ![1, 16, 1408] inb_S2x16x1408_S1x16x1408_1_0_0)))
      (k0_pay7 (iblk m c 5 t) (iblk m c 3 t)) (k0_pay8 (iblk m c 5 t) (iblk m c 4 t)) (ix2 e l)
      = ext (G m c 0 (lane t l)) (t.val % 16 * 256 + e.val) := by
  pointwise [k0_pay12, k0_pay9, k0_pay10, k0_pay4, k0_pay5, k0_pay7, k0_pay8, k0_pay6]
  simp only [rd1, rd2, rd3, rd4, rd5, last]
  by_cases h : e.val < 256
  · simp only [h, ↓reduceDIte]
    exact (ext_fin (G m c 0 (lane t l)) (row t ⟨e.val, h⟩)).symm
  · simp only [h, ↓reduceDIte]
    by_cases hl : t.val % 16 < 15
    · rw [if_pos hl, mul_one, ← row_next t e h hl, ext_fin]
      rfl
    · rw [if_neg hl, mul_zero]
      refine (dgate_zero _ _).trans ?_
      unfold ext
      rw [dif_neg (by omega)]

/-- The cotangents of the values on the same rows. -/
theorem val_at (c : Dev nD) (t : Fin cfg0.N) (e : Fin 272) (l : Fin 1408) :
    k0_pay11 (F := Ideal) (k0_pay2 (grid0.coords t))
      (k0_pay4 (View.ld (iblk m c 1 t) (Rect.unit ![0, 0, 0] ![1, 256, 1408] inb_S2x256x1408_S1x256x1408_0_0_0))
        (View.ld (iblk m c 2 t) (Rect.unit ![0, 0, 0] ![1, 16, 1408] inb_S2x16x1408_S1x16x1408_0_0_0)))
      (k0_pay7 (iblk m c 5 t) (iblk m c 3 t)) (k0_pay8 (iblk m c 5 t) (iblk m c 4 t)) (ix2 e l)
      = ext (G m c 1 (lane t l)) (t.val % 16 * 256 + e.val) := by
  pointwise [k0_pay11, k0_pay9, k0_pay10, k0_pay4, k0_pay7, k0_pay8, k0_pay6]
  simp only [rd1, rd2, rd3, rd4, rd5, last]
  by_cases h : e.val < 256
  · simp only [h, ↓reduceDIte]
    exact (ext_fin (G m c 1 (lane t l)) (row t ⟨e.val, h⟩)).symm
  · simp only [h, ↓reduceDIte]
    by_cases hl : t.val % 16 < 15
    · rw [if_pos hl, mul_one, ← row_next t e h hl, ext_fin]
      rfl
    · rw [if_neg hl, mul_zero]
      refine (dval_zero _).trans ?_
      unfold ext
      rw [dif_neg (by omega)]

/-- One row up in the block with its sixteen extra rows. -/
theorem up1 (t : Fin cfg0.N) (r : Fin 256) : t.val % 16 * 256 + (r.val + 272 - 271) % 272 = (row t r).val + 1 := by
  unfold row; simp only; omega

/-- Two rows up. -/
theorem up2 (t : Fin cfg0.N) (r : Fin 256) : t.val % 16 * 256 + (r.val + 272 - 270) % 272 = (row t r).val + 2 := by
  unfold row; simp only; omega

/-- The row itself. -/
theorem up0 (d : Fin 4096 → EReal) (t : Fin cfg0.N) (r : Fin 256) :
    ext d (t.val % 16 * 256 + r.val) = d (row t r) := ext_fin d (row t r)

/-- The input's gradient from the cotangents in the block with its extra rows. -/
theorem dinput_of {w : Fin 3 → EReal} {d : Fin 4096 → EReal} {t : Fin cfg0.N} {r : Fin 256} {x y z : EReal}
    (hx : x = ext d (t.val % 16 * 256 + r.val)) (hy : y = ext d (t.val % 16 * 256 + (r.val + 272 - 271) % 272))
    (hz : z = ext d (t.val % 16 * 256 + (r.val + 272 - 270) % 272)) :
    w 2 * x + w 1 * y + w 0 * z = dinput w d (row t r) := by
  rw [hx, hy, hz, up0, up1, up2]
  rfl

/-- The block of the input's gradient that a grid point leaves. -/
theorem du_A (c : Dev nD) (t : Fin cfg0.N) (h : t.val % 16 = 0) (g : Fin 2) (r : Fin 256) (l : Fin 1408) :
    (outsAt0 m c t.val t.isLt).1 (ix3 g r l)
      = dinput (CW m c (half g (lane t l))) (G m c g (lane t l)) (row t r) := by
  rw [outsAt0_A m c t h]; frame_out
  canon_tiles x h
  all_goals
    idx_vars x
    obtain rfl : r = x1 := Fin.ext (by omega)
    obtain rfl : l = x2 := Fin.ext (by omega)
  · obtain rfl : g = 1 := Fin.ext (by simp only [Fin.val_one]; omega)
    pointwise [k0_pay27, k0_pay26, k0_pay25]
    simp only [rd6]
    exact dinput_of (val_at m c t _ _) (val_at m c t _ _) (val_at m c t _ _)
  · obtain rfl : g = 0 := Fin.ext (by simp only [Fin.val_zero]; omega)
    pointwise [k0_pay15, k0_pay13, k0_pay14]
    simp only [rd6]
    exact dinput_of (gate_at m c t _ _) (gate_at m c t _ _) (gate_at m c t _ _)

/-- The same at the points after the first of a run. -/
theorem du_B (c : Dev nD) (t : Fin cfg0.N) (h : ¬ t.val % 16 = 0) (g : Fin 2) (r : Fin 256) (l : Fin 1408) :
    (outsAt0 m c t.val t.isLt).1 (ix3 g r l)
      = dinput (CW m c (half g (lane t l))) (G m c g (lane t l)) (row t r) := by
  rw [outsAt0_B m c t h]; frame_out
  canon_tiles x h
  all_goals
    idx_vars x
    obtain rfl : r = x1 := Fin.ext (by omega)
    obtain rfl : l = x2 := Fin.ext (by omega)
  · obtain rfl : g = 1 := Fin.ext (by simp only [Fin.val_one]; omega)
    pointwise [k0_pay27, k0_pay26, k0_pay25]
    simp only [rd6]
    exact dinput_of (val_at m c t _ _) (val_at m c t _ _) (val_at m c t _ _)
  · obtain rfl : g = 0 := Fin.ext (by simp only [Fin.val_zero]; omega)
    pointwise [k0_pay15, k0_pay13, k0_pay14]
    simp only [rd6]
    exact dinput_of (gate_at m c t _ _) (gate_at m c t _ _) (gate_at m c t _ _)

end Cert.Conv
-- ==== Proof.Conv.Acc.lean ====
/- What one grid point adds to the partial sums of the taps' and the bias's gradients (program `Kernel3Ideal`). -/
module

public import proofs.«01_k».proof.Proof.Conv.Tile

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen

variable (m : (ℓ : Loc nD τ sig) → Buf (Elt Ideal) ℓ)

/-- Earlier stores play no part where later ones cover. -/
theorem canon_covered {S : Shape} {e : EltTy} {Val : EltTy → Type} [∀ e, Nonempty (Val e)]
    (L' : List (View.Piece Val S e)) (y : S.Idx) (v : Val e) :
    ∀ (L : List (View.Piece Val S e)) (_ : ∃ p ∈ L, y ∈ p.1.set) (_ : View.canon L y = v), View.canon (L ++ L') y = v
  | [], hc, _ => by obtain ⟨p, hp, _⟩ := hc; simp at hp
  | p :: L, hc, hv => by
    by_cases hm : y ∈ p.1.set
    · obtain ⟨x, hx⟩ := p.1.exists_idx_of_mem hm
      obtain rfl : p.1.emb x = y := hx
      obtain ⟨r, w⟩ := p
      rw [View.canon_cons_emb] at hv
      rw [List.cons_append, View.canon_cons_emb, hv]
    · rw [View.canon_cons_of_not_mem p L hm] at hv
      rw [List.cons_append, View.canon_cons_of_not_mem p (L ++ L') hm]
      refine canon_covered L' y v L ?_ hv
      obtain ⟨q, hq, hy⟩ := hc
      rcases List.mem_cons.mp hq with rfl | hq
      · exact absurd hy hm
      · exact ⟨q, hq, hy⟩

/-- Row `8 x + s` of a block. -/
def sub8 (x : Fin 32) (s : Fin 8) : Fin 256 := ⟨x.val * 8 + s.val, by omega⟩

/-- What a grid point adds. -/
def part (c : Dev nD) (t : Fin cfg0.N) (g : Fin 2) (k : Fin 4) (s : Fin 8) (l : Fin 1408) : EReal :=
  ∑ x : Fin 32, entry k (G m c g (lane t l)) (U m c (half g (lane t l))) (row t (sub8 x s))

section
variable {d u : Fin 4096 → EReal} {t : Fin cfg0.N} {x : Fin 32} {s : Fin 8} {y : EReal}

theorem entry0 (h : y = ext d (t.val % 16 * 256 + ((sub8 x s).val + 272 - 270) % 272)) :
    y * u (row t (sub8 x s)) = entry 0 d u (row t (sub8 x s)) := by rw [h, up2]; rfl
theorem entry1 (h : y = ext d (t.val % 16 * 256 + ((sub8 x s).val + 272 - 271) % 272)) :
    y * u (row t (sub8 x s)) = entry 1 d u (row t (sub8 x s)) := by rw [h, up1]; rfl
theorem entry2 (h : y = ext d (t.val % 16 * 256 + (sub8 x s).val)) :
    y * u (row t (sub8 x s)) = entry 2 d u (row t (sub8 x s)) := by rw [h]; rfl
theorem entry3 (h : y = ext d (t.val % 16 * 256 + (sub8 x s).val)) :
    y = entry 3 d u (row t (sub8 x s)) := by rw [h, up0]; rfl
end

/-- The first point of a run starts the sums. -/
theorem acc_A (c : Dev nD) (t : Fin cfg0.N) (h : t.val % 16 = 0) (g : Fin 2) (k : Fin 4) (s : Fin 8) (l : Fin 1408) :
    (outsAt0 m c t.val t.isLt).2 (ix4 g k s l) = part m c t g k s l := by
  rw [outsAt0_A m c t h]; frame_out
  simp (disch := decide) only [↓View.readCov_skip, View.readCov_fill]
  refine canon_covered [_] _ _ [_, _, _, _, _, _, _, _] (View.cover_of_tiled_head _ _ _ (by rfl) _) ?_
  canon_tiles x h
  all_goals
    idx_vars x
    obtain rfl : s = x2 := Fin.ext (by omega)
    obtain rfl : l = x3 := Fin.ext (by omega)
  case piece0 =>
    obtain rfl : g = 1 := Fin.ext (by simp only [Fin.val_one]; omega)
    obtain rfl : k = 3 := Fin.ext (by have : (3 : Fin 4).val = 3 := rfl; omega)
    pointwise [k0_pay1, k0_pay33, k0_pay3]
    exact Finset.sum_congr rfl fun x _ => entry3 (val_at m c t _ _)
  case piece1 =>
    obtain rfl : g = 1 := Fin.ext (by simp only [Fin.val_one]; omega)
    obtain rfl : k = 0 := Fin.ext (by have : (0 : Fin 4).val = 0 := rfl; omega)
    pointwise [k0_pay32, k0_pay28, k0_pay26, k0_pay3]
    simp only [rd0]
    exact Finset.sum_congr rfl fun x _ => entry0 (val_at m c t _ _)
  case piece2 =>
    obtain rfl : g = 1 := Fin.ext (by simp only [Fin.val_one]; omega)
    obtain rfl : k = 1 := Fin.ext (by have : (1 : Fin 4).val = 1 := rfl; omega)
    pointwise [k0_pay31, k0_pay28, k0_pay25, k0_pay3]
    simp only [rd0]
    exact Finset.sum_congr rfl fun x _ => entry1 (val_at m c t _ _)
  case piece3 =>
    obtain rfl : g = 1 := Fin.ext (by simp only [Fin.val_one]; omega)
    obtain rfl : k = 2 := Fin.ext (by have : (2 : Fin 4).val = 2 := rfl; omega)
    pointwise [k0_pay30, k0_pay29, k0_pay28, k0_pay3]
    simp only [rd0]
    exact Finset.sum_congr rfl fun x _ => entry2 (val_at m c t _ _)
  case piece4 =>
    obtain rfl : g = 0 := Fin.ext (by simp only [Fin.val_zero]; omega)
    obtain rfl : k = 3 := Fin.ext (by have : (3 : Fin 4).val = 3 := rfl; omega)
    pointwise [k0_pay24, k0_pay23, k0_pay22, k0_pay3]
    exact Finset.sum_congr rfl fun x _ => entry3 (gate_at m c t _ _)
  case piece5 =>
    obtain rfl : g = 0 := Fin.ext (by simp only [Fin.val_zero]; omega)
    obtain rfl : k = 0 := Fin.ext (by have : (0 : Fin 4).val = 0 := rfl; omega)
    pointwise [k0_pay21, k0_pay16, k0_pay14, k0_pay3]
    simp only [rd0]
    exact Finset.sum_congr rfl fun x _ => entry0 (gate_at m c t _ _)
  case piece6 =>
    obtain rfl : g = 0 := Fin.ext (by simp only [Fin.val_zero]; omega)
    obtain rfl : k = 1 := Fin.ext (by have : (1 : Fin 4).val = 1 := rfl; omega)
    pointwise [k0_pay20, k0_pay16, k0_pay13, k0_pay3]
    simp only [rd0]
    exact Finset.sum_congr rfl fun x _ => entry1 (gate_at m c t _ _)
  case piece7 =>
    obtain rfl : g = 0 := Fin.ext (by simp only [Fin.val_zero]; omega)
    obtain rfl : k = 2 := Fin.ext (by have : (2 : Fin 4).val = 2 := rfl; omega)
    pointwise [k0_pay19, k0_pay18, k0_pay17, k0_pay16, k0_pay3]
    simp only [rd0]
    exact Finset.sum_congr rfl fun x _ => entry2 (gate_at m c t _ _)

/-- Every later point adds to what the point before left. -/
theorem acc_B (c : Dev nD) (t : Fin cfg0.N) (h : ¬ t.val % 16 = 0) (g : Fin 2) (k : Fin 4) (s : Fin 8) (l : Fin 1408) :
    (outsAt0 m c t.val t.isLt).2 (ix4 g k s l) = (outsAt0 m c (t.val - 1) (Nat.lt_of_le_of_lt (Nat.sub_le _ _) t.isLt)).2 (ix4 g k s l) + part m c t g k s l := by
  rw [outsAt0_B m c t h]; frame_out
  canon_tiles x h
  all_goals
    idx_vars x
    obtain rfl : s = x2 := Fin.ext (by omega)
    obtain rfl : l = x3 := Fin.ext (by omega)
  case piece0 =>
    obtain rfl : g = 1 := Fin.ext (by simp only [Fin.val_one]; omega)
    obtain rfl : k = 3 := Fin.ext (by have : (3 : Fin 4).val = 3 := rfl; omega)
    pointwise [k0_pay1, k0_pay33]
    exact congrArg (_ + ·) (Finset.sum_congr rfl fun x _ => entry3 (val_at m c t _ _))
  case piece1 =>
    obtain rfl : g = 1 := Fin.ext (by simp only [Fin.val_one]; omega)
    obtain rfl : k = 0 := Fin.ext (by have : (0 : Fin 4).val = 0 := rfl; omega)
    pointwise [k0_pay32, k0_pay28, k0_pay26]
    simp only [rd0]
    exact congrArg (_ + ·) (Finset.sum_congr rfl fun x _ => entry0 (val_at m c t _ _))
  case piece2 =>
    obtain rfl : g = 1 := Fin.ext (by simp only [Fin.val_one]; omega)
    obtain rfl : k = 1 := Fin.ext (by have : (1 : Fin 4).val = 1 := rfl; omega)
    pointwise [k0_pay31, k0_pay28, k0_pay25]
    simp only [rd0]
    exact congrArg (_ + ·) (Finset.sum_congr rfl fun x _ => entry1 (val_at m c t _ _))
  case piece3 =>
    obtain rfl : g = 1 := Fin.ext (by simp only [Fin.val_one]; omega)
    obtain rfl : k = 2 := Fin.ext (by have : (2 : Fin 4).val = 2 := rfl; omega)
    pointwise [k0_pay30, k0_pay29, k0_pay28]
    simp only [rd0]
    exact congrArg (_ + ·) (Finset.sum_congr rfl fun x _ => entry2 (val_at m c t _ _))
  case piece4 =>
    obtain rfl : g = 0 := Fin.ext (by simp only [Fin.val_zero]; omega)
    obtain rfl : k = 3 := Fin.ext (by have : (3 : Fin 4).val = 3 := rfl; omega)
    pointwise [k0_pay24, k0_pay23, k0_pay22]
    exact congrArg (_ + ·) (Finset.sum_congr rfl fun x _ => entry3 (gate_at m c t _ _))
  case piece5 =>
    obtain rfl : g = 0 := Fin.ext (by simp only [Fin.val_zero]; omega)
    obtain rfl : k = 0 := Fin.ext (by have : (0 : Fin 4).val = 0 := rfl; omega)
    pointwise [k0_pay21, k0_pay16, k0_pay14]
    simp only [rd0]
    exact congrArg (_ + ·) (Finset.sum_congr rfl fun x _ => entry0 (gate_at m c t _ _))
  case piece6 =>
    obtain rfl : g = 0 := Fin.ext (by simp only [Fin.val_zero]; omega)
    obtain rfl : k = 1 := Fin.ext (by have : (1 : Fin 4).val = 1 := rfl; omega)
    pointwise [k0_pay20, k0_pay16, k0_pay13]
    simp only [rd0]
    exact congrArg (_ + ·) (Finset.sum_congr rfl fun x _ => entry1 (gate_at m c t _ _))
  case piece7 =>
    obtain rfl : g = 0 := Fin.ext (by simp only [Fin.val_zero]; omega)
    obtain rfl : k = 2 := Fin.ext (by have : (2 : Fin 4).val = 2 := rfl; omega)
    pointwise [k0_pay19, k0_pay18, k0_pay17, k0_pay16]
    simp only [rd0]
    exact congrArg (_ + ·) (Finset.sum_congr rfl fun x _ => entry2 (gate_at m c t _ _))

end Cert.Conv
-- ==== Proof.Conv.Kernel.lean ====
/- The arrays that the gradient of the gated convolution (program `Kernel3Ideal`) leaves: the gradient of the
   convolution's input, and eight partial sums each of the gradients of the three taps and of the bias. -/
module

public import proofs.«01_k».proof.Proof.Conv.Acc

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen

variable (m : (ℓ : Loc nD τ sig) → Buf (Elt Ideal) ℓ)

/-- The gradient of the input. -/
theorem final_du (c : Dev nD) : (dats m 0 c).arrAt 7 cfg0.N
    = fun y : S2x4096x2816.Idx => dinput (CW m c (half (y 0) (y 2))) (G m c (y 0) (y 2)) (y 1) := by
  refine (dats m 0 c).arrAt_eq_of_covers 7 _ (by decide +kernel) fun t hf y => ?_
  blk_simp
  rw [after0_7]
  change S2x256x1408.Idx at y
  idx_vars y
  have hr : (win0_7.blk t).view.emb (ix3 y0 y1 y2) = ix3 y0 (row t y1) (lane t y2) := by
    unfold row lane
    blk_ext [idx t]
  rw [hr]
  by_cases h : t.val % 16 = 0
  · exact du_A m c t h y0 y1 y2
  · exact du_B m c t h y0 y1 y2

/-- The sixteen blocks of rows of a run, thirty-two groups of eight rows each, are the 512 groups of the array. -/
theorem sum_runs (f : Fin 4096 → EReal) (s : Fin 8) (hb : ∀ (q : Fin 16) (x : Fin 32), q.val * 256 + (x.val * 8 + s.val) < 4096) :
    ∑ q : Fin 16, ∑ x : Fin 32, f ⟨q.val * 256 + (x.val * 8 + s.val), hb q x⟩ = ∑ q : Fin 512, f (group8 q s) := by
  refine Fin.sum_mul_add_congr fun q x hl => ?_
  refine congrArg f (Fin.ext ?_)
  simp only [group8]
  omega

/-- The partial sums of the taps' and the bias's gradients. -/
theorem final_acc (c : Dev nD) : (dats m 0 c).arrAt 8 cfg0.N
    = fun y : S2x4x8x2816.Idx => (∑ q : Fin 512, entry (y 1) (G m c (y 0) (y 3)) (U m c (half (y 0) (y 3))) (group8 q (y 2)) : EReal) := by
  refine (dats m 0 c).arrAt_eq_of_covers 8 _ (by decide +kernel) fun t hf y => ?_
  blk_simp
  rw [after0_8]
  change S2x4x8x1408.Idx at y
  idx_vars y
  have hr : (win0_8.blk t).view.emb (ix4 y0 y1 y2 y3) = ix4 y0 y1 y2 (lane t y3) := by
    unfold lane
    blk_ext [idx t]
  rw [hr]
  have hA : ∀ (t : Fin cfg0.N) (h : t.val % 16 = 0) (y : S2x4x8x1408.Idx), ((outsAt0 m c t.val t.isLt).2 : S2x4x8x1408.Idx → EReal) y
      = 0 + part m c t (y 0) (y 1) (y 2) (y 3) := fun t h y => by
    rw [zero_add]; idx_vars y; exact acc_A m c t h _ _ _ _
  have hB : ∀ (t : Fin cfg0.N) (h : ¬ t.val % 16 = 0) (y : S2x4x8x1408.Idx), ((outsAt0 m c t.val t.isLt).2 : S2x4x8x1408.Idx → EReal) y
      = (outsAt0 m c (t.val - 1) (Nat.lt_of_le_of_lt (Nat.sub_le _ _) t.isLt)).2 y + part m c t (y 0) (y 1) (y 2) (y 3) := fun t h y => by
    idx_vars y; exact acc_B m c t h _ _ _ _
  have hsum : ((outsAt0 m c t.val t.isLt).2 : S2x4x8x1408.Idx → EReal) (ix4 y0 y1 y2 y3)
      = ∑ q : Fin 16, part m c ⟨_, Pipeline.run_point_lt_of_flush t ((flush0_8 t).mp hf) q⟩ y0 y1 y2 y3 := by
    rw [Pipeline.eq_sum_fin_of_reset_step_apply_of_flush (fun n h => ((outsAt0 m c n h).2 : S2x4x8x1408.Idx → EReal)) 16
      (fun _ => (0 : EReal)) (fun t y => part m c t (y 0) (y 1) (y 2) (y 3)) hA hB t ((flush0_8 t).mp hf) _, zero_add]
    rfl
  refine hsum.trans ((Finset.sum_congr rfl fun q _ => Finset.sum_congr rfl fun x _ => ?_).trans
    (sum_runs (fun n => entry y1 (G m c y0 (lane t y3)) (U m c (half y0 (lane t y3))) n) y2 (fun q x => by omega)))
  have hq := Pipeline.run_point_lt_of_flush t ((flush0_8 t).mp hf) q
  have hl : lane ⟨_, hq⟩ y3 = lane t y3 := Fin.ext (by simp only [lane]; omega)
  have hw : row ⟨_, hq⟩ (sub8 x y2) = ⟨q.val * 256 + (x.val * 8 + y2.val), by omega⟩ := Fin.ext (by simp only [row, sub8]; omega)
  exact congrArg₂ (fun l n => entry y1 (G m c y0 l) (U m c (half y0 l)) n) hl hw

end Cert.Conv
-- ==== Proof.Conv.Claim.lean ====
/- The claim about the gated convolution's gradient, for arguments that hold real numbers. -/
module

public import proofs.«01_k».proof.Defs
public import proofs.«01_k».proof.Proof.Gen.Pre_finite3
public import proofs.«01_k».proof.Proof.Conv.Ref
public import proofs.«01_k».proof.Proof.Conv.Kernel

@[expose] public section

set_option maxRecDepth 16384

noncomputable section

open Idealize.ShloMosaic Idealize.ShloMosaic.TcCoe Idealize.SL.Sem

namespace Cert.Conv

/-- What the precondition's comparison says of one value. -/
theorem real_of_cmp {x : EReal} (h : (FloatOps.cmpf (F := Ideal) (φ := .f32) .olt (FloatOps.hostAbsf (F := Ideal) (φ := .f32) x)
    (FloatOps.ofBits (F := Ideal) .f32 0x7F800000#32)) = 1#1) : IsReal x := by
  have h' : Ideal.cmp .olt (max x (-x)) (Ideal.ofBits .f32 0x7F800000#32) = 1 := h
  rw [Ideal.cmp_olt_eq_one] at h'
  exact real_of_finite (h'.trans_le le_top)

section
open Cert.Kernel3Ideal
variable (m : (ℓ : Loc nD τ sig) → Buf (Elt Ideal) ℓ) (c : Dev nD) (h : Cert.Pre_Kernel3Ideal_finite3 m)
include h

theorem real_U (l : Fin 5632) (n : Fin 4096) : IsReal (U m c l n) := real_of_cmp (congrFun (h c).1 (ix2 n l))
theorem real_CW (l : Fin 5632) (k : Fin 3) : IsReal (CW m c l k) := real_of_cmp (congrFun (h c).2.1 (ix2 k l))
theorem real_CB (l : Fin 5632) : IsReal (CB m c l) := real_of_cmp (congrFun (h c).2.2.1 (ix1 l))
theorem real_WD (l : Fin 2816) (k : Fin 1024) : IsReal (WD m c l k) := real_of_cmp (congrFun (h c).2.2.2.1 (ix2 l k))
theorem real_DF (n : Fin 4096) (k : Fin 1024) : IsReal (DF m c n k) := real_of_cmp (congrFun (h c).2.2.2.2 (ix2 n k))

theorem real_DA (p : Fin 2816) (n : Fin 4096) : IsReal (DA m c p n) :=
  IsReal.sum _ fun k => (real_DF m c h n k).mul (real_WD m c h p k)
theorem real_C (l : Fin 5632) (n : Fin 4096) : IsReal (C m c l n) :=
  real_conv (real_CW m c h l) (real_CB m c h l) (real_U m c h l) n

/-- The reference's cotangent of the convolution is the kernel's. -/
theorem dconv_eq (u : FVec Ideal S4096x5632 .f32) (cw : FVec Ideal S3x5632 .f32) (cb : FVec Ideal S5632 .f32)
    (wd : FVec Ideal S2816x1024 .f32) (df : FVec Ideal S4096x1024 .f32)
    (h0 : m (c.tc.loc main_arg0) = u) (h1 : m (c.tc.loc main_arg1) = cw) (h2 : m (c.tc.loc main_arg2) = cb)
    (h3 : m (c.tc.loc main_arg3) = wd) (h4 : m (c.tc.loc main_arg4) = df) (g : Fin 2) (l : Fin 2816) (n : Fin 4096) :
    Ref.colm (Ref.dconvV u cw cb wd df) (half g l) n = G m c g l n := by
  have ec : ∀ p : Fin 5632, Ref.convV u cw cb (ix2 n p) = C m c p n := fun p => by
    subst h0 h1 h2; exact Ref.conv_at _ _ _ n p
  have ea : Ref.daV df wd (ix2 n l) = DA m c l n := by
    subst h3 h4; exact Ref.da_at _ _ n l
  have e0 : half 0 l = ⟨l.val, by omega⟩ := Fin.ext (by show 0 * 2816 + l.val = l.val; omega)
  have e1 : half 1 l = ⟨2816 + l.val, by omega⟩ := Fin.ext (by show 1 * 2816 + l.val = 2816 + l.val; omega)
  have es : Ref.sigV u cw cb (ix2 n l) = Ideal.logistic (C m c (half 0 l) n) := by
    rw [Ref.sig_at, ec, e0]
  have hg : g = 0 ∨ g = 1 := by omega
  rcases hg with rfl | rfl
  · refine (congrArg (fun p => Ref.dconvV u cw cb wd df (ix2 n p)) e0).trans ((Ref.dconv_gate u cw cb wd df n l).trans ?_)
    rw [ea, es, ec, ec, ← e0, ← e1]
    exact dgate_eq' (real_DA m c h l n) (real_C m c h _ n) (real_C m c h _ n)
  · refine (congrArg (fun p => Ref.dconvV u cw cb wd df (ix2 n p)) e1).trans ((Ref.dconv_val u cw cb wd df n l).trans ?_)
    rw [ea, es, ec, ← e0]
    show _ = dval (DA m c l n) (C m c (half 0 l) n)
    unfold dval
    rw [mul_comm, ← mul_assoc]

end

set_option maxHeartbeats 1600000 in
/-- The kernel's gradients are the derivative's, where the arguments hold real numbers. -/
theorem algebraic : Cert.algebraic_Kernel3Ideal_Reference3Ideal_pre_finite3 := by
  pair_intro
  · run_from Cert.Kernel3Ideal.Gen.run_main m g
  · run_from Cert.Reference3Ideal.Value.run m' g'
    · obtain ⟨h0, h1, h2, h3, h4⟩ := hagree c
      rw [final_du m c]
      funext y
      idx_vars y
      refine (congrFun (Ref.res0_eq m' c _ _ _ _ _ h0 h1 h2 h3 h4) (ix3 y0 y1 y2)).trans ((Ref.du_at _ _ y0 y1 y2).trans ?_)
      exact congrArg (fun d => dinput (CW m c (half y0 y2)) d y1)
        (funext fun n => dconv_eq m c hpre _ _ _ _ _ rfl rfl rfl rfl rfl y0 y2 n)
    · obtain ⟨h0, h1, h2, h3, h4⟩ := hagree c
      rw [final_acc m c]
      funext y
      idx_vars y
      refine (congrFun (Ref.res1_eq m' c _ _ _ _ _ h0 h1 h2 h3 h4) (ix4 y0 y1 y2 y3)).trans ((Ref.acc_at _ _ y0 y1 y2 y3).trans ?_)
      exact Finset.sum_congr rfl fun q _ => congrArg (fun d => entry y1 d (U m c (half y0 y3)) (group8 q y2))
        (funext fun n => dconv_eq m c hpre _ _ _ _ _ rfl rfl rfl rfl rfl y0 y3 n)

end Cert.Conv

end
-- ==== Proof.Weight.Sum.lean ====
/- Sums over the rows of an array, taken block by block. -/
module

public import Idealize.ShloMosaic.Lib.Pipeline.ValueKit

@[expose] public section

noncomputable section

open Idealize.ShloMosaic

namespace Cert.Weight

/-- Two blocks of 2048 rows are the 4096 rows. -/
theorem two_blocks (f : Fin 4096 → EReal) (p : Fin 2 → Fin 2048 → Fin 4096) (hp : ∀ q r, (p q r).val = q.val * 2048 + r.val) :
    (0 + ∑ r : Fin 2048, f (p 0 r)) + ∑ r : Fin 2048, f (p 1 r) = ∑ n : Fin 4096, f n := by
  rw [zero_add, ← Fin.sum_univ_two (fun q => ∑ r : Fin 2048, f (p q r))]
  exact Fin.sum_mul_add_congr fun q r hl => congrArg f (Fin.ext (hp q r))

/-- Eight blocks of 512 rows are the 4096 rows. -/
theorem eight_blocks (f : Fin 4096 → EReal) (p : Fin 8 → Fin 512 → Fin 4096) (hp : ∀ q r, (p q r).val = q.val * 512 + r.val) :
    ∑ q : Fin 8, ∑ r : Fin 512, f (p q r) = ∑ n : Fin 4096, f n :=
  Fin.sum_mul_add_congr fun q r hl => congrArg f (Fin.ext (hp q r))

end Cert.Weight
-- ==== Proof.Weight.In.lean ====
/- The gradient of the first projection's weight (program `Kernel4Ideal`): what the kernel computes, entry by entry. -/
module

public import proofs.«01_k».proof.Proof.Gen.Kernel4Ideal.Value
public import Idealize.ShloMosaic.Lib.Pipeline.ValueKit
public import Idealize.ShloMosaic.Lib.Pipeline.ReadBack
public import Idealize.ShloMosaic.Lib.Claim
public import proofs.«01_k».proof.Proof.Weight.Sum

@[expose] public section

set_option maxRecDepth 16384

noncomputable section

open Idealize.ShloMosaic Idealize.ShloMosaic.TcCoe Idealize.SL.Sem
open Idealize.ShloMosaic.Pipeline (Dat)

namespace Cert.Weight.In
open Cert.Kernel4Ideal Cert.Kernel4Ideal.Gen

variable (m : (ℓ : Loc nD τ sig) → Buf (Elt Ideal) ℓ)

/-- Which block each window reads or writes at a grid point: two blocks of rows for each of four blocks of columns. -/
theorem idx : ∀ t : Fin cfg0.N, win0_0.index t = ![t.val % 2, 0] ∧ win0_1.index t = ![0, t.val % 2, t.val / 2]
    ∧ win0_2.index t = ![t.val / 2, 0, 0] :=
  (by decide +kernel : ∀ t : Fin grid0.N, _)

/-- The projection's input. -/
def H (c : Dev nD) (n : Fin 4096) (k : Fin 1024) : EReal := m (c.tc.loc main_arg0) (ix2 n k)
/-- The cotangent. -/
def D (c : Dev nD) (n : Fin 4096) (l : Fin 4096) : EReal := m (c.tc.loc main_arg1) (ix2 n l)

/-- Row `r` of the block of grid point `t`. -/
def row (t : Fin cfg0.N) (r : Fin 2048) : Fin 4096 := ⟨t.val % 2 * 2048 + r.val, by omega⟩

theorem col_lt (t : Fin cfg0.N) (l : Fin 1024) : t.val / 2 * 1024 + l.val < 4096 := by
  have := t.isLt; have h : cfg0.N = 8 := N_0; omega
/-- Column `l` of the block of grid point `t`. -/
def col (t : Fin cfg0.N) (l : Fin 1024) : Fin 4096 := ⟨t.val / 2 * 1024 + l.val, col_lt t l⟩

theorem rd0 (c : Dev nD) (t : Fin cfg0.N) (r : Fin 2048) (k : Fin 1024) :
    iblk m c 0 t (ix2 r k) = H m c (row t r) k := by
  unfold H row
  blk_point [iblk, V, idx t]

theorem rd1 (c : Dev nD) (t : Fin cfg0.N) (r : Fin 2048) (l : Fin 1024) :
    iblk m c 1 t (ix3 0 r l) = D m c (row t r) (col t l) := by
  unfold D row col
  blk_point [iblk, V, idx t]

/-- What a block of rows adds to an entry of the gradient. -/
def part (c : Dev nD) (t : Fin cfg0.N) (k l : Fin 1024) : EReal := ∑ r : Fin 2048, H m c (row t r) k * D m c (row t r) (col t l)

theorem acc_A (c : Dev nD) (t : Fin cfg0.N) (h0 : t.val % 2 = 0) (h1 : ¬ t.val % 2 = 1) (k l : Fin 1024) :
    ((outsAt0 m c t.val t.isLt).2 : S1024x1024.Idx → EReal) (ix2 k l) = 0 + part m c t k l := by
  rw [outsAt0_A m c t h0 h1]
  frame_out
  pointwise [k0_pay2, k0_pay1]
  simp only [rd0, rd1]
  rfl

theorem out_B (c : Dev nD) (t : Fin cfg0.N) (h0 : ¬ t.val % 2 = 0) (h1 : t.val % 2 = 1) (k l : Fin 1024) :
    ((outsAt0 m c t.val t.isLt).1 : S1x1024x1024.Idx → EReal) (ix3 0 k l)
      = (outsAt0 m c (t.val - 1) (Nat.lt_of_le_of_lt (Nat.sub_le _ _) t.isLt)).2 (ix2 k l) + part m c t k l := by
  rw [outsAt0_B m c t h0 h1]
  frame_out
  simp only [read_unread_whole]
  pointwise [k0_pay3, k0_pay2]
  simp only [rd0, rd1]
  rfl

/-- Column `l` of block `p`. -/
def colp (p : Fin 4) (l : Fin 1024) : Fin 4096 := ⟨p.val * 1024 + l.val, by omega⟩

/-- The gradient, in blocks of columns. -/
theorem final (c : Dev nD) : (dats m 0 c).arrAt 2 cfg0.N
    = fun y : S4x1024x1024.Idx => (∑ n : Fin 4096, H m c n (y 1) * D m c n (colp (y 0) (y 2)) : EReal) := by
  refine (dats m 0 c).arrAt_eq_of_covers 2 _ (by decide +kernel) fun t hf y => ?_
  have h1 := (flush0_2 t).mp hf
  blk_simp
  rw [after0_2]
  change S1x1024x1024.Idx at y
  idx_vars y
  obtain rfl : y0 = 0 := Subsingleton.elim _ _
  have ht : t.val / 2 < 4 := by have := t.isLt; have h : cfg0.N = 8 := N_0; omega
  have hr : (win0_2.blk t).view.emb (ix3 0 y1 y2) = ix3 ⟨t.val / 2, ht⟩ y1 y2 := by
    blk_ext [idx t]
  rw [hr]
  have hA := acc_A m c ⟨t.val - 1, Nat.lt_of_le_of_lt (Nat.sub_le _ _) t.isLt⟩ (by simp only; omega) (by simp only; omega) y1 y2
  refine (out_B m c t (by omega) h1 y1 y2).trans ((congrArg (· + part m c t y1 y2) hA).trans ?_)
  have hc : col ⟨t.val - 1, Nat.lt_of_le_of_lt (Nat.sub_le _ _) t.isLt⟩ y2 = col t y2 := Fin.ext (by simp only [col]; omega)
  unfold part
  rw [hc]
  exact two_blocks (fun n => H m c n y1 * D m c n (col t y2))
    ![row ⟨t.val - 1, Nat.lt_of_le_of_lt (Nat.sub_le _ _) t.isLt⟩, row t]
    (fun q r => by
      have hq : q = 0 ∨ q = 1 := by omega
      rcases hq with rfl | rfl
      · show (t.val - 1) % 2 * 2048 + r.val = 0 * 2048 + r.val; omega
      · show t.val % 2 * 2048 + r.val = 1 * 2048 + r.val; omega)

end Cert.Weight.In

end
-- ==== Proof.Weight.InClaim.lean ====
/- The claim about the gradient of the first projection's weight. -/
module

public import proofs.«01_k».proof.Defs
public import proofs.«01_k».proof.Proof.Gen.Reference4Ideal.Run
public import proofs.«01_k».proof.Proof.Weight.In

@[expose] public section

set_option maxRecDepth 16384

noncomputable section

open Idealize.ShloMosaic Idealize.ShloMosaic.TcCoe Idealize.SL.Sem

namespace Cert.Weight.In

section
open Cert.Reference4Ideal Cert.Reference4Ideal.Gen

/-- The reference's gradient, in blocks of columns. -/
def gradV (h : FVec Ideal S4096x1024 .f32) (d : FVec Ideal S4096x4096 .f32) : FVec Ideal S4x1024x1024 .bf16 :=
  truncf .bf16 (transpose S4x1024x1024 [1, 0, 2] (shapeCast _ (transpose S1024x4096 [1, 0]
    (Host.dotGeneral dot_S4096x4096_S4096x1024_S4096x1024_0_0_1_1_n_n none d h) transposes_S4096x1024_S1024x4096_1_0)
    shapeCasts_S1024x4096_S1024x4x1024) transposes_S1024x4x1024_S4x1024x1024_1_0_2) bitsLt_bf16_f32

theorem grad_at (h : FVec Ideal S4096x1024 .f32) (d : FVec Ideal S4096x4096 .f32) (p : Fin 4) (k l : Fin 1024) :
    gradV h d (ix3 p k l) = (∑ n : Fin 4096, h (ix2 n k) * d (ix2 n (colp p l)) : EReal) := by
  pointwise [gradV]
  exact Finset.sum_congr rfl fun n _ => mul_comm _ _

end

set_option maxHeartbeats 1600000 in
/-- The kernel's gradient is the derivative's. -/
theorem algebraic : Cert.algebraic_Kernel4Ideal_Reference4Ideal := by
  pair_intro
  · run_from Cert.Kernel4Ideal.Gen.run_main m g
  · run_from Cert.Reference4Ideal.Value.run m' g'
    rw [final m c]
    funext y
    idx_vars y
    exact grad_at _ _ y0 y1 y2

end Cert.Weight.In

end
-- ==== Proof.Weight.Up.lean ====
/- The gradient of the channel mixer's up projection (program `Kernel5Ideal`): what the kernel computes, entry by entry. -/
module

public import proofs.«01_k».proof.Proof.Gen.Kernel5Ideal.Value
public import Idealize.ShloMosaic.Lib.Pipeline.ValueKit
public import Idealize.ShloMosaic.Lib.Pipeline.ReadBack
public import Idealize.ShloMosaic.Lib.Claim
public import proofs.«01_k».proof.Proof.Weight.Sum

@[expose] public section

set_option maxRecDepth 16384

noncomputable section

open Idealize.ShloMosaic Idealize.ShloMosaic.TcCoe Idealize.SL.Sem
open Idealize.ShloMosaic.Pipeline (Dat)

namespace Cert.Weight.Up
open Cert.Kernel5Ideal Cert.Kernel5Ideal.Gen

variable (m : (ℓ : Loc nD τ sig) → Buf (Elt Ideal) ℓ)

/-- Which block each window reads or writes at a grid point: two blocks of rows for each of four blocks of columns. -/
theorem idx : ∀ t : Fin cfg0.N, win0_0.index t = ![t.val % 2, 0] ∧ win0_1.index t = ![t.val / 4, t.val % 2, t.val / 2 % 2]
    ∧ win0_2.index t = ![t.val / 2, 0, 0] :=
  (by decide +kernel : ∀ t : Fin grid0.N, _)

/-- The projection's input. -/
def H (c : Dev nD) (n : Fin 4096) (k : Fin 1024) : EReal := m (c.tc.loc main_arg0) (ix2 n k)
/-- The cotangent. -/
def D (c : Dev nD) (n : Fin 4096) (l : Fin 5632) : EReal := m (c.tc.loc main_arg1) (ix2 n l)

/-- Row `r` of the block of grid point `t`. -/
def row (t : Fin cfg0.N) (r : Fin 2048) : Fin 4096 := ⟨t.val % 2 * 2048 + r.val, by omega⟩

theorem col_lt (t : Fin cfg0.N) (l : Fin 1408) : t.val / 2 * 1408 + l.val < 5632 := by
  have := t.isLt; have h : cfg0.N = 8 := N_0; omega
/-- Column `l` of the block of grid point `t`. -/
def col (t : Fin cfg0.N) (l : Fin 1408) : Fin 5632 := ⟨t.val / 2 * 1408 + l.val, col_lt t l⟩

theorem rd0 (c : Dev nD) (t : Fin cfg0.N) (r : Fin 2048) (k : Fin 1024) :
    iblk m c 0 t (ix2 r k) = H m c (row t r) k := by
  unfold H row
  blk_point [iblk, V, idx t]

theorem rd1 (c : Dev nD) (t : Fin cfg0.N) (r : Fin 2048) (l : Fin 1408) :
    iblk m c 1 t (ix3 0 r l) = D m c (row t r) (col t l) := by
  unfold D row col
  blk_point [iblk, V, idx t]

/-- What a block of rows adds to an entry of the gradient. -/
def part (c : Dev nD) (t : Fin cfg0.N) (k : Fin 1024) (l : Fin 1408) : EReal := ∑ r : Fin 2048, H m c (row t r) k * D m c (row t r) (col t l)

theorem acc_A (c : Dev nD) (t : Fin cfg0.N) (h0 : t.val % 2 = 0) (h1 : ¬ t.val % 2 = 1) (k : Fin 1024) (l : Fin 1408) :
    ((outsAt0 m c t.val t.isLt).2 : S1024x1408.Idx → EReal) (ix2 k l) = 0 + part m c t k l := by
  rw [outsAt0_A m c t h0 h1]
  frame_out
  pointwise [k0_pay2, k0_pay1]
  simp only [rd0, rd1]
  rfl

theorem out_B (c : Dev nD) (t : Fin cfg0.N) (h0 : ¬ t.val % 2 = 0) (h1 : t.val % 2 = 1) (k : Fin 1024) (l : Fin 1408) :
    ((outsAt0 m c t.val t.isLt).1 : S1x1024x1408.Idx → EReal) (ix3 0 k l)
      = (outsAt0 m c (t.val - 1) (Nat.lt_of_le_of_lt (Nat.sub_le _ _) t.isLt)).2 (ix2 k l) + part m c t k l := by
  rw [outsAt0_B m c t h0 h1]
  frame_out
  simp only [read_unread_whole]
  pointwise [k0_pay3, k0_pay2]
  simp only [rd0, rd1]
  rfl

/-- Column `l` of block `p`. -/
def colp (p : Fin 4) (l : Fin 1408) : Fin 5632 := ⟨p.val * 1408 + l.val, by omega⟩

/-- The gradient, in blocks of columns. -/
theorem final (c : Dev nD) : (dats m 0 c).arrAt 2 cfg0.N
    = fun y : S4x1024x1408.Idx => (∑ n : Fin 4096, H m c n (y 1) * D m c n (colp (y 0) (y 2)) : EReal) := by
  refine (dats m 0 c).arrAt_eq_of_covers 2 _ (by decide +kernel) fun t hf y => ?_
  have h1 := (flush0_2 t).mp hf
  blk_simp
  rw [after0_2]
  change S1x1024x1408.Idx at y
  idx_vars y
  obtain rfl : y0 = 0 := Subsingleton.elim _ _
  have ht : t.val / 2 < 4 := by have := t.isLt; have h : cfg0.N = 8 := N_0; omega
  have hr : (win0_2.blk t).view.emb (ix3 0 y1 y2) = ix3 ⟨t.val / 2, ht⟩ y1 y2 := by
    blk_ext [idx t]
  rw [hr]
  have hA := acc_A m c ⟨t.val - 1, Nat.lt_of_le_of_lt (Nat.sub_le _ _) t.isLt⟩ (by simp only; omega) (by simp only; omega) y1 y2
  refine (out_B m c t (by omega) h1 y1 y2).trans ((congrArg (· + part m c t y1 y2) hA).trans ?_)
  have hc : col ⟨t.val - 1, Nat.lt_of_le_of_lt (Nat.sub_le _ _) t.isLt⟩ y2 = col t y2 := Fin.ext (by simp only [col]; omega)
  unfold part
  rw [hc]
  exact two_blocks (fun n => H m c n y1 * D m c n (col t y2))
    ![row ⟨t.val - 1, Nat.lt_of_le_of_lt (Nat.sub_le _ _) t.isLt⟩, row t]
    (fun q r => by
      have hq : q = 0 ∨ q = 1 := by omega
      rcases hq with rfl | rfl
      · show (t.val - 1) % 2 * 2048 + r.val = 0 * 2048 + r.val; omega
      · show t.val % 2 * 2048 + r.val = 1 * 2048 + r.val; omega)

end Cert.Weight.Up

end
-- ==== Proof.Weight.UpClaim.lean ====
/- The claim about the gradient of the channel mixer's up projection. -/
module

public import proofs.«01_k».proof.Defs
public import proofs.«01_k».proof.Proof.Gen.Reference5Ideal.Run
public import proofs.«01_k».proof.Proof.Weight.Up

@[expose] public section

set_option maxRecDepth 16384

noncomputable section

open Idealize.ShloMosaic Idealize.ShloMosaic.TcCoe Idealize.SL.Sem

namespace Cert.Weight.Up

section
open Cert.Reference5Ideal Cert.Reference5Ideal.Gen

/-- The reference's gradient, in blocks of columns. -/
def gradV (h : FVec Ideal S4096x1024 .f32) (d : FVec Ideal S4096x5632 .f32) : FVec Ideal S4x1024x1408 .bf16 :=
  truncf .bf16 (transpose S4x1024x1408 [1, 0, 2] (shapeCast _ (transpose S1024x5632 [1, 0]
    (Host.dotGeneral dot_S4096x5632_S4096x1024_S5632x1024_0_0_1_1_n_n none d h) transposes_S5632x1024_S1024x5632_1_0)
    shapeCasts_S1024x5632_S1024x4x1408) transposes_S1024x4x1408_S4x1024x1408_1_0_2) bitsLt_bf16_f32

theorem grad_at (h : FVec Ideal S4096x1024 .f32) (d : FVec Ideal S4096x5632 .f32) (p : Fin 4) (k : Fin 1024) (l : Fin 1408) :
    gradV h d (ix3 p k l) = (∑ n : Fin 4096, h (ix2 n k) * d (ix2 n (colp p l)) : EReal) := by
  pointwise [gradV]
  exact Finset.sum_congr rfl fun n _ => mul_comm _ _

end

set_option maxHeartbeats 1600000 in
/-- The kernel's gradient is the derivative's. -/
theorem algebraic : Cert.algebraic_Kernel5Ideal_Reference5Ideal := by
  pair_intro
  · run_from Cert.Kernel5Ideal.Gen.run_main m g
  · run_from Cert.Reference5Ideal.Value.run m' g'
    rw [final m c]
    funext y
    idx_vars y
    exact grad_at _ _ y0 y1 y2

end Cert.Weight.Up

end
-- ==== Proof.Weight.Query.lean ====
/- The gradient of the query and gate projection's weight (program `Kernel6Ideal`): what the kernel computes, entry by entry. -/
module

public import proofs.«01_k».proof.Proof.Gen.Kernel6Ideal.Value
public import Idealize.ShloMosaic.Lib.Pipeline.ValueKit
public import Idealize.ShloMosaic.Lib.Pipeline.ReadBack
public import Idealize.ShloMosaic.Lib.Claim
public import proofs.«01_k».proof.Proof.Weight.Sum

@[expose] public section

set_option maxRecDepth 16384

noncomputable section

open Idealize.ShloMosaic Idealize.ShloMosaic.TcCoe Idealize.SL.Sem
open Idealize.ShloMosaic.Pipeline (Dat)

namespace Cert.Weight.Query
open Cert.Kernel6Ideal Cert.Kernel6Ideal.Gen

variable (m : (ℓ : Loc nD τ sig) → Buf (Elt Ideal) ℓ)

/-- Which block each window reads or writes at a grid point: two blocks of rows for each of four blocks of columns. -/
theorem idx : ∀ t : Fin cfg0.N, win0_0.index t = ![t.val % 2, 0] ∧ win0_1.index t = ![t.val / 4, t.val % 2, t.val / 2 % 2]
    ∧ win0_2.index t = ![t.val / 2, 0, 0] :=
  (by decide +kernel : ∀ t : Fin grid0.N, _)

/-- The projection's input. -/
def H (c : Dev nD) (n : Fin 4096) (k : Fin 1024) : EReal := m (c.tc.loc main_arg0) (ix2 n k)
/-- The cotangent. -/
def D (c : Dev nD) (n : Fin 4096) (l : Fin 2048) : EReal := m (c.tc.loc main_arg1) (ix2 n l)

/-- Row `r` of the block of grid point `t`. -/
def row (t : Fin cfg0.N) (r : Fin 2048) : Fin 4096 := ⟨t.val % 2 * 2048 + r.val, by omega⟩

theorem col_lt (t : Fin cfg0.N) (l : Fin 512) : t.val / 2 * 512 + l.val < 2048 := by
  have := t.isLt; have h : cfg0.N = 8 := N_0; omega
/-- Column `l` of the block of grid point `t`. -/
def col (t : Fin cfg0.N) (l : Fin 512) : Fin 2048 := ⟨t.val / 2 * 512 + l.val, col_lt t l⟩

theorem rd0 (c : Dev nD) (t : Fin cfg0.N) (r : Fin 2048) (k : Fin 1024) :
    iblk m c 0 t (ix2 r k) = H m c (row t r) k := by
  unfold H row
  blk_point [iblk, V, idx t]

theorem rd1 (c : Dev nD) (t : Fin cfg0.N) (r : Fin 2048) (l : Fin 512) :
    iblk m c 1 t (ix3 0 r l) = D m c (row t r) (col t l) := by
  unfold D row col
  blk_point [iblk, V, idx t]

/-- What a block of rows adds to an entry of the gradient. -/
def part (c : Dev nD) (t : Fin cfg0.N) (k : Fin 1024) (l : Fin 512) : EReal := ∑ r : Fin 2048, H m c (row t r) k * D m c (row t r) (col t l)

theorem acc_A (c : Dev nD) (t : Fin cfg0.N) (h0 : t.val % 2 = 0) (h1 : ¬ t.val % 2 = 1) (k : Fin 1024) (l : Fin 512) :
    ((outsAt0 m c t.val t.isLt).2 : S1024x512.Idx → EReal) (ix2 k l) = 0 + part m c t k l := by
  rw [outsAt0_A m c t h0 h1]
  frame_out
  pointwise [k0_pay2, k0_pay1]
  simp only [rd0, rd1]
  rfl

theorem out_B (c : Dev nD) (t : Fin cfg0.N) (h0 : ¬ t.val % 2 = 0) (h1 : t.val % 2 = 1) (k : Fin 1024) (l : Fin 512) :
    ((outsAt0 m c t.val t.isLt).1 : S1x1024x512.Idx → EReal) (ix3 0 k l)
      = (outsAt0 m c (t.val - 1) (Nat.lt_of_le_of_lt (Nat.sub_le _ _) t.isLt)).2 (ix2 k l) + part m c t k l := by
  rw [outsAt0_B m c t h0 h1]
  frame_out
  simp only [read_unread_whole]
  pointwise [k0_pay3, k0_pay2]
  simp only [rd0, rd1]
  rfl

/-- Column `l` of block `p`. -/
def colp (p : Fin 4) (l : Fin 512) : Fin 2048 := ⟨p.val * 512 + l.val, by omega⟩

/-- The gradient, in blocks of columns. -/
theorem final (c : Dev nD) : (dats m 0 c).arrAt 2 cfg0.N
    = fun y : S4x1024x512.Idx => (∑ n : Fin 4096, H m c n (y 1) * D m c n (colp (y 0) (y 2)) : EReal) := by
  refine (dats m 0 c).arrAt_eq_of_covers 2 _ (by decide +kernel) fun t hf y => ?_
  have h1 := (flush0_2 t).mp hf
  blk_simp
  rw [after0_2]
  change S1x1024x512.Idx at y
  idx_vars y
  obtain rfl : y0 = 0 := Subsingleton.elim _ _
  have ht : t.val / 2 < 4 := by have := t.isLt; have h : cfg0.N = 8 := N_0; omega
  have hr : (win0_2.blk t).view.emb (ix3 0 y1 y2) = ix3 ⟨t.val / 2, ht⟩ y1 y2 := by
    blk_ext [idx t]
  rw [hr]
  have hA := acc_A m c ⟨t.val - 1, Nat.lt_of_le_of_lt (Nat.sub_le _ _) t.isLt⟩ (by simp only; omega) (by simp only; omega) y1 y2
  refine (out_B m c t (by omega) h1 y1 y2).trans ((congrArg (· + part m c t y1 y2) hA).trans ?_)
  have hc : col ⟨t.val - 1, Nat.lt_of_le_of_lt (Nat.sub_le _ _) t.isLt⟩ y2 = col t y2 := Fin.ext (by simp only [col]; omega)
  unfold part
  rw [hc]
  exact two_blocks (fun n => H m c n y1 * D m c n (col t y2))
    ![row ⟨t.val - 1, Nat.lt_of_le_of_lt (Nat.sub_le _ _) t.isLt⟩, row t]
    (fun q r => by
      have hq : q = 0 ∨ q = 1 := by omega
      rcases hq with rfl | rfl
      · show (t.val - 1) % 2 * 2048 + r.val = 0 * 2048 + r.val; omega
      · show t.val % 2 * 2048 + r.val = 1 * 2048 + r.val; omega)

end Cert.Weight.Query

end
-- ==== Proof.Weight.QueryClaim.lean ====
/- The claim about the gradient of the query and gate projection's weight. -/
module

public import proofs.«01_k».proof.Defs
public import proofs.«01_k».proof.Proof.Gen.Reference6Ideal.Run
public import proofs.«01_k».proof.Proof.Weight.Query

@[expose] public section

set_option maxRecDepth 16384

noncomputable section

open Idealize.ShloMosaic Idealize.ShloMosaic.TcCoe Idealize.SL.Sem

namespace Cert.Weight.Query

section
open Cert.Reference6Ideal Cert.Reference6Ideal.Gen

/-- The reference's gradient, in blocks of columns. -/
def gradV (h : FVec Ideal S4096x1024 .f32) (d : FVec Ideal S4096x2048 .f32) : FVec Ideal S4x1024x512 .bf16 :=
  truncf .bf16 (transpose S4x1024x512 [1, 0, 2] (shapeCast _ (transpose S1024x2048 [1, 0]
    (Host.dotGeneral dot_S4096x2048_S4096x1024_S2048x1024_0_0_1_1_n_n none d h) transposes_S2048x1024_S1024x2048_1_0)
    shapeCasts_S1024x2048_S1024x4x512) transposes_S1024x4x512_S4x1024x512_1_0_2) bitsLt_bf16_f32

theorem grad_at (h : FVec Ideal S4096x1024 .f32) (d : FVec Ideal S4096x2048 .f32) (p : Fin 4) (k : Fin 1024) (l : Fin 512) :
    gradV h d (ix3 p k l) = (∑ n : Fin 4096, h (ix2 n k) * d (ix2 n (colp p l)) : EReal) := by
  pointwise [gradV]
  exact Finset.sum_congr rfl fun n _ => mul_comm _ _

end

set_option maxHeartbeats 1600000 in
/-- The kernel's gradient is the derivative's. -/
theorem algebraic : Cert.algebraic_Kernel6Ideal_Reference6Ideal := by
  pair_intro
  · run_from Cert.Kernel6Ideal.Gen.run_main m g
  · run_from Cert.Reference6Ideal.Value.run m' g'
    rw [final m c]
    funext y
    idx_vars y
    exact grad_at _ _ y0 y1 y2

end Cert.Weight.Query

end
-- ==== Proof.Weight.Down.lean ====
/- The gradient of the weight of a channel mixer's down projection (program `Kernel7Ideal`): what the kernel computes, entry by entry. -/
module

public import proofs.«01_k».proof.Proof.Gen.Kernel7Ideal.Value
public import Idealize.ShloMosaic.Lib.Pipeline.ValueKit
public import Idealize.ShloMosaic.Lib.Pipeline.ReadBack
public import Idealize.ShloMosaic.Lib.Claim
public import proofs.«01_k».proof.Proof.Weight.Sum

@[expose] public section

set_option maxRecDepth 16384

noncomputable section

open Idealize.ShloMosaic Idealize.ShloMosaic.TcCoe Idealize.SL.Sem
open Idealize.ShloMosaic.Pipeline (Dat)

namespace Cert.Weight.Down
open Cert.Kernel7Ideal Cert.Kernel7Ideal.Gen

variable (m : (ℓ : Loc nD τ sig) → Buf (Elt Ideal) ℓ)

/-- Which block each window reads or writes at a grid point: eight blocks of rows. -/
theorem idx : ∀ t : Fin cfg0.N, win0_0.index t = ![t.val % 8, 0] ∧ win0_1.index t = ![0, t.val % 8, 0]
    ∧ win0_2.index t = ![0, 0, 0] :=
  (by decide +kernel : ∀ t : Fin grid0.N, _)

/-- The projection's input. -/
def H (c : Dev nD) (n : Fin 4096) (k : Fin 2816) : EReal := m (c.tc.loc main_arg0) (ix2 n k)
/-- The cotangent. -/
def D (c : Dev nD) (n : Fin 4096) (l : Fin 1024) : EReal := m (c.tc.loc main_arg1) (ix2 n l)

/-- Row `r` of the block of grid point `t`. -/
def row (t : Fin cfg0.N) (r : Fin 512) : Fin 4096 := ⟨t.val % 8 * 512 + r.val, by omega⟩

theorem rd0 (c : Dev nD) (t : Fin cfg0.N) (r : Fin 512) (k : Fin 2816) :
    iblk m c 0 t (ix2 r k) = H m c (row t r) k := by
  unfold H row
  blk_point [iblk, V, idx t]

theorem rd1 (c : Dev nD) (t : Fin cfg0.N) (r : Fin 512) (l : Fin 1024) :
    iblk m c 1 t (ix3 0 r l) = D m c (row t r) l := by
  unfold D row
  blk_point [iblk, V, idx t]

/-- What a block of rows adds to an entry of the gradient. -/
def part (c : Dev nD) (t : Fin cfg0.N) (k : Fin 2816) (l : Fin 1024) : EReal := ∑ r : Fin 512, H m c (row t r) k * D m c (row t r) l

theorem acc_A (c : Dev nD) (t : Fin cfg0.N) (h0 : t.val % 8 = 0) (k : Fin 2816) (l : Fin 1024) :
    ((outsAt0 m c t.val t.isLt).2 : S2816x1024.Idx → EReal) (ix2 k l) = 0 + part m c t k l := by
  rw [outsAt0_A m c t h0 (by omega)]
  frame_out
  pointwise [k0_pay2, k0_pay1]
  simp only [rd0, rd1]
  rfl

theorem acc_B (c : Dev nD) (t : Fin cfg0.N) (h0 : ¬ t.val % 8 = 0) (k : Fin 2816) (l : Fin 1024) :
    ((outsAt0 m c t.val t.isLt).2 : S2816x1024.Idx → EReal) (ix2 k l)
      = (outsAt0 m c (t.val - 1) (Nat.lt_of_le_of_lt (Nat.sub_le _ _) t.isLt)).2 (ix2 k l) + part m c t k l := by
  by_cases h1 : t.val % 8 = 7
  · rw [outsAt0_C m c t h0 h1]
    frame_out
    simp only [read_unread_whole]
    pointwise [k0_pay2]
    simp only [rd0, rd1]
    rfl
  · rw [outsAt0_B m c t h0 h1]
    frame_out
    simp only [read_unread_whole]
    pointwise [k0_pay2]
    simp only [rd0, rd1]
    rfl

theorem out_C (c : Dev nD) (t : Fin cfg0.N) (h1 : t.val % 8 = 7) (k : Fin 2816) (l : Fin 1024) :
    ((outsAt0 m c t.val t.isLt).1 : S1x2816x1024.Idx → EReal) (ix3 0 k l)
      = (outsAt0 m c (t.val - 1) (Nat.lt_of_le_of_lt (Nat.sub_le _ _) t.isLt)).2 (ix2 k l) + part m c t k l := by
  rw [outsAt0_C m c t (by omega) h1]
  frame_out
  simp only [read_unread_whole]
  pointwise [k0_pay3, k0_pay2]
  simp only [rd0, rd1]
  rfl

/-- The gradient. -/
theorem final (c : Dev nD) : (dats m 0 c).arrAt 2 cfg0.N
    = fun y : S1x2816x1024.Idx => (∑ n : Fin 4096, H m c n (y 1) * D m c n (y 2) : EReal) := by
  refine (dats m 0 c).arrAt_eq_of_covers 2 _ (by decide +kernel) fun t hf y => ?_
  have h1 := (flush0_2 t).mp hf
  blk_simp
  rw [after0_2]
  change S1x2816x1024.Idx at y
  idx_vars y
  obtain rfl : y0 = 0 := Subsingleton.elim _ _
  have hr : (win0_2.blk t).view.emb (ix3 0 y1 y2) = ix3 0 y1 y2 := by
    blk_ext [idx t]
  rw [hr]
  have hA : ∀ (t : Fin cfg0.N) (h : t.val % 8 = 0) (y : S2816x1024.Idx), ((outsAt0 m c t.val t.isLt).2 : S2816x1024.Idx → EReal) y
      = 0 + part m c t (y 0) (y 1) := fun t h y => by
    idx_vars y; exact acc_A m c t h _ _
  have hB : ∀ (t : Fin cfg0.N) (h : ¬ t.val % 8 = 0) (y : S2816x1024.Idx), ((outsAt0 m c t.val t.isLt).2 : S2816x1024.Idx → EReal) y
      = (outsAt0 m c (t.val - 1) (Nat.lt_of_le_of_lt (Nat.sub_le _ _) t.isLt)).2 y + part m c t (y 0) (y 1) := fun t h y => by
    idx_vars y; exact acc_B m c t h _ _
  have hsum : ((outsAt0 m c t.val t.isLt).2 : S2816x1024.Idx → EReal) (ix2 y1 y2)
      = ∑ q : Fin 8, part m c ⟨_, Pipeline.run_point_lt_of_flush t h1 q⟩ y1 y2 := by
    rw [Pipeline.eq_sum_fin_of_reset_step_apply_of_flush (fun n h => ((outsAt0 m c n h).2 : S2816x1024.Idx → EReal)) 8
      (fun _ => (0 : EReal)) (fun t y => part m c t (y 0) (y 1)) hA hB t h1 _, zero_add]
    rfl
  refine (out_C m c t h1 y1 y2).trans ((acc_B m c t (by omega) y1 y2).symm.trans (hsum.trans ?_))
  refine eight_blocks (fun n => H m c n y1 * D m c n y2) (fun q => row ⟨_, Pipeline.run_point_lt_of_flush t h1 q⟩) fun q r => ?_
  simp only [row]
  omega

end Cert.Weight.Down

end
-- ==== Proof.Weight.DownClaim.lean ====
/- The claim about the gradient of the weight of a channel mixer's down projection. -/
module

public import proofs.«01_k».proof.Defs
public import proofs.«01_k».proof.Proof.Gen.Reference7Ideal.Run
public import proofs.«01_k».proof.Proof.Weight.Down

@[expose] public section

set_option maxRecDepth 16384

noncomputable section

open Idealize.ShloMosaic Idealize.ShloMosaic.TcCoe Idealize.SL.Sem

namespace Cert.Weight.Down

section
open Cert.Reference7Ideal Cert.Reference7Ideal.Gen

/-- The reference's gradient. -/
def gradV (h : FVec Ideal S4096x2816 .f32) (d : FVec Ideal S4096x1024 .f32) : FVec Ideal S1x2816x1024 .bf16 :=
  truncf .bf16 (broadcastInDim S1x2816x1024 ![1, 2] bcast_S2816x1024_S1x2816x1024_1_2 (transpose S2816x1024 [1, 0]
    (Host.dotGeneral dot_S4096x1024_S4096x2816_S1024x2816_0_0_1_1_n_n none d h) transposes_S1024x2816_S2816x1024_1_0)) bitsLt_bf16_f32

theorem grad_at (h : FVec Ideal S4096x2816 .f32) (d : FVec Ideal S4096x1024 .f32) (p : Fin 1) (k : Fin 2816) (l : Fin 1024) :
    gradV h d (ix3 p k l) = (∑ n : Fin 4096, h (ix2 n k) * d (ix2 n l) : EReal) := by
  pointwise [gradV]
  exact Finset.sum_congr rfl fun n _ => mul_comm _ _

end

set_option maxHeartbeats 1600000 in
/-- The kernel's gradient is the derivative's. -/
theorem algebraic : Cert.algebraic_Kernel7Ideal_Reference7Ideal := by
  pair_intro
  · run_from Cert.Kernel7Ideal.Gen.run_main m g
  · run_from Cert.Reference7Ideal.Value.run m' g'
    rw [final m c]
    funext y
    idx_vars y
    exact grad_at _ _ y0 y1 y2

end Cert.Weight.Down

end
-- ==== Proof.Weight.Square.lean ====
/- The gradient of the weight of a projection from the model's width to itself (program `Kernel8Ideal`): what the kernel computes, entry by entry. -/
module

public import proofs.«01_k».proof.Proof.Gen.Kernel8Ideal.Value
public import Idealize.ShloMosaic.Lib.Pipeline.ValueKit
public import Idealize.ShloMosaic.Lib.Pipeline.ReadBack
public import Idealize.ShloMosaic.Lib.Claim
public import proofs.«01_k».proof.Proof.Weight.Sum

@[expose] public section

set_option maxRecDepth 16384

noncomputable section

open Idealize.ShloMosaic Idealize.ShloMosaic.TcCoe Idealize.SL.Sem
open Idealize.ShloMosaic.Pipeline (Dat)

namespace Cert.Weight.Square
open Cert.Kernel8Ideal Cert.Kernel8Ideal.Gen

variable (m : (ℓ : Loc nD τ sig) → Buf (Elt Ideal) ℓ)

/-- Which block each window reads or writes at a grid point: two blocks of rows. -/
theorem idx : ∀ t : Fin cfg0.N, win0_0.index t = ![t.val % 2, 0] ∧ win0_1.index t = ![0, t.val % 2, 0]
    ∧ win0_2.index t = ![0, 0, 0] :=
  (by decide +kernel : ∀ t : Fin grid0.N, _)

/-- The projection's input. -/
def H (c : Dev nD) (n : Fin 4096) (k : Fin 1024) : EReal := m (c.tc.loc main_arg0) (ix2 n k)
/-- The cotangent. -/
def D (c : Dev nD) (n : Fin 4096) (l : Fin 1024) : EReal := m (c.tc.loc main_arg1) (ix2 n l)

/-- Row `r` of the block of grid point `t`. -/
def row (t : Fin cfg0.N) (r : Fin 2048) : Fin 4096 := ⟨t.val % 2 * 2048 + r.val, by omega⟩

theorem rd0 (c : Dev nD) (t : Fin cfg0.N) (r : Fin 2048) (k : Fin 1024) :
    iblk m c 0 t (ix2 r k) = H m c (row t r) k := by
  unfold H row
  blk_point [iblk, V, idx t]

theorem rd1 (c : Dev nD) (t : Fin cfg0.N) (r : Fin 2048) (l : Fin 1024) :
    iblk m c 1 t (ix3 0 r l) = D m c (row t r) l := by
  unfold D row
  blk_point [iblk, V, idx t]

/-- What a block of rows adds to an entry of the gradient. -/
def part (c : Dev nD) (t : Fin cfg0.N) (k l : Fin 1024) : EReal := ∑ r : Fin 2048, H m c (row t r) k * D m c (row t r) l

theorem acc_A (c : Dev nD) (t : Fin cfg0.N) (h0 : t.val % 2 = 0) (h1 : ¬ t.val % 2 = 1) (k l : Fin 1024) :
    ((outsAt0 m c t.val t.isLt).2 : S1024x1024.Idx → EReal) (ix2 k l) = 0 + part m c t k l := by
  rw [outsAt0_A m c t h0 h1]
  frame_out
  pointwise [k0_pay2, k0_pay1]
  simp only [rd0, rd1]
  rfl

theorem out_B (c : Dev nD) (t : Fin cfg0.N) (h0 : ¬ t.val % 2 = 0) (h1 : t.val % 2 = 1) (k l : Fin 1024) :
    ((outsAt0 m c t.val t.isLt).1 : S1x1024x1024.Idx → EReal) (ix3 0 k l)
      = (outsAt0 m c (t.val - 1) (Nat.lt_of_le_of_lt (Nat.sub_le _ _) t.isLt)).2 (ix2 k l) + part m c t k l := by
  rw [outsAt0_B m c t h0 h1]
  frame_out
  simp only [read_unread_whole]
  pointwise [k0_pay3, k0_pay2]
  simp only [rd0, rd1]
  rfl

/-- The gradient. -/
theorem final (c : Dev nD) : (dats m 0 c).arrAt 2 cfg0.N
    = fun y : S1x1024x1024.Idx => (∑ n : Fin 4096, H m c n (y 1) * D m c n (y 2) : EReal) := by
  refine (dats m 0 c).arrAt_eq_of_covers 2 _ (by decide +kernel) fun t hf y => ?_
  have h1 := (flush0_2 t).mp hf
  blk_simp
  rw [after0_2]
  change S1x1024x1024.Idx at y
  idx_vars y
  obtain rfl : y0 = 0 := Subsingleton.elim _ _
  have hr : (win0_2.blk t).view.emb (ix3 0 y1 y2) = ix3 0 y1 y2 := by
    blk_ext [idx t]
  rw [hr]
  have hA := acc_A m c ⟨t.val - 1, Nat.lt_of_le_of_lt (Nat.sub_le _ _) t.isLt⟩ (by simp only; omega) (by simp only; omega) y1 y2
  refine (out_B m c t (by omega) h1 y1 y2).trans ((congrArg (· + part m c t y1 y2) hA).trans ?_)
  unfold part
  exact two_blocks (fun n => H m c n y1 * D m c n y2)
    ![row ⟨t.val - 1, Nat.lt_of_le_of_lt (Nat.sub_le _ _) t.isLt⟩, row t]
    (fun q r => by
      have hq : q = 0 ∨ q = 1 := by omega
      rcases hq with rfl | rfl
      · show (t.val - 1) % 2 * 2048 + r.val = 0 * 2048 + r.val; omega
      · show t.val % 2 * 2048 + r.val = 1 * 2048 + r.val; omega)

end Cert.Weight.Square

end
-- ==== Proof.Weight.SquareClaim.lean ====
/- The claim about the gradient of the weight of a projection from the model's width to itself. -/
module

public import proofs.«01_k».proof.Defs
public import proofs.«01_k».proof.Proof.Gen.Reference8Ideal.Run
public import proofs.«01_k».proof.Proof.Weight.Square

@[expose] public section

set_option maxRecDepth 16384

noncomputable section

open Idealize.ShloMosaic Idealize.ShloMosaic.TcCoe Idealize.SL.Sem

namespace Cert.Weight.Square

section
open Cert.Reference8Ideal Cert.Reference8Ideal.Gen

/-- The reference's gradient. -/
def gradV (h : FVec Ideal S4096x1024 .f32) (d : FVec Ideal S4096x1024 .f32) : FVec Ideal S1x1024x1024 .bf16 :=
  truncf .bf16 (broadcastInDim S1x1024x1024 ![1, 2] bcast_S1024x1024_S1x1024x1024_1_2 (transpose S1024x1024 [1, 0]
    (Host.dotGeneral dot_S4096x1024_S4096x1024_S1024x1024_0_0_1_1_n_n none d h) transposes_S1024x1024_S1024x1024_1_0)) bitsLt_bf16_f32

theorem grad_at (h : FVec Ideal S4096x1024 .f32) (d : FVec Ideal S4096x1024 .f32) (p : Fin 1) (k l : Fin 1024) :
    gradV h d (ix3 p k l) = (∑ n : Fin 4096, h (ix2 n k) * d (ix2 n l) : EReal) := by
  pointwise [gradV]
  exact Finset.sum_congr rfl fun n _ => mul_comm _ _

end

set_option maxHeartbeats 1600000 in
/-- The kernel's gradient is the derivative's. -/
theorem algebraic : Cert.algebraic_Kernel8Ideal_Reference8Ideal := by
  pair_intro
  · run_from Cert.Kernel8Ideal.Gen.run_main m g
  · run_from Cert.Reference8Ideal.Value.run m' g'
    rw [final m c]
    funext y
    idx_vars y
    exact grad_at _ _ y0 y1 y2

end Cert.Weight.Square

end
-- ==== Proof.Forward.Row.lean ====
/- One row of the modulated root-mean-square normalisation. -/
module

public import proofs.«01_k».proof.Proof.Premix.Row

@[expose] public section

noncomputable section

open Idealize.ShloMosaic

namespace Cert.Forward
open Cert.Premix

/-- The modulated normalisation of a row. -/
def nrow {n : ℕ} (x sc sh : Fin n → EReal) (j : Fin n) : EReal := x j * rinv x * (1 + sc j) + sh j

/-- One row of a product. -/
def prow {K n : ℕ} (a : Fin K → EReal) (w : Fin K → Fin n → EReal) (j : Fin n) : EReal := ∑ k, a k * w k j

/-- A row plus a gated row of a product. -/
def resid {K n : ℕ} (x g : Fin n → EReal) (a : Fin K → EReal) (w : Fin K → Fin n → EReal) (j : Fin n) : EReal :=
  x j + g j * prow a w j

end Cert.Forward

end
-- ==== Proof.Forward.In.lean ====
/- The first modulated normalisation and its projection (program `Kernel10Ideal`): what the kernel computes, entry by
   entry. -/
module

public import proofs.«01_k».proof.Proof.Gen.Kernel10Ideal.Value
public import Idealize.ShloMosaic.Lib.Pipeline.ValueKit
public import Idealize.ShloMosaic.Lib.Pipeline.ReadBack
public import Idealize.ShloMosaic.Lib.Claim
public import proofs.«01_k».proof.Proof.Forward.Row

@[expose] public section

set_option maxRecDepth 16384

noncomputable section

open Idealize.ShloMosaic Idealize.ShloMosaic.TcCoe Idealize.SL.Sem
open Idealize.ShloMosaic.Pipeline (Dat)

namespace Cert.Forward.In
open Cert.Kernel10Ideal Cert.Kernel10Ideal.Gen Cert.Premix

variable (m : (ℓ : Loc nD τ sig) → Buf (Elt Ideal) ℓ)

/-- Which block each window reads or writes at a grid point. -/
theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] :=
  (by decide +kernel : ∀ t : Fin grid0.N, _)

/-- The rows. -/
def X (c : Dev nD) (i : Fin 4096) (j : Fin 1024) : EReal := m (c.tc.loc main_arg0) (ix2 i j)
/-- The shift. -/
def SH (c : Dev nD) (j : Fin 1024) : EReal := m (c.tc.loc main_arg1) (ix1 j)
/-- The scale. -/
def SC (c : Dev nD) (j : Fin 1024) : EReal := m (c.tc.loc main_arg2) (ix1 j)
/-- The projection's weight. -/
def W (c : Dev nD) (j : Fin 1024) (l : Fin 4096) : EReal := m (c.tc.loc main_arg3) (ix2 j l)

theorem row_lt (t : Fin cfg0.N) (r : Fin 512) : t.val * 512 + r.val < 4096 := by
  have := t.isLt; have h : cfg0.N = 8 := N_0; omega
/-- Row `r` of the block of grid point `t`. -/
def row (t : Fin cfg0.N) (r : Fin 512) : Fin 4096 := ⟨t.val * 512 + r.val, row_lt t r⟩

theorem rd0 (c : Dev nD) (t : Fin cfg0.N) (r : Fin 512) (j : Fin 1024) :
    iblk m c 0 t (ix2 r j) = X m c (row t r) j := by
  unfold X row
  blk_point [iblk, V, idx t]

theorem rd1 (c : Dev nD) (t : Fin cfg0.N) (j : Fin 1024) : iblk m c 1 t (ix2 0 j) = SH m c j := by
  unfold SH
  blk_point [iblk, V, idx t]

theorem rd2 (c : Dev nD) (t : Fin cfg0.N) (j : Fin 1024) : iblk m c 2 t (ix2 0 j) = SC m c j := by
  unfold SC
  blk_point [iblk, V, idx t]

theorem rd3 (c : Dev nD) (t : Fin cfg0.N) (b : Fin 4) (k l : Fin 1024) :
    iblk m c 3 t (ix3 b k l) = W m c k ⟨b.val * 1024 + l.val, by omega⟩ := by
  unfold W
  blk_point [iblk, V, idx t]

/-- The normalised rows. -/
def N (c : Dev nD) (i : Fin 4096) : Fin 1024 → EReal := nrow (X m c i) (SC m c) (SH m c)

theorem norm_at (c : Dev nD) (t : Fin cfg0.N) (r : Fin 512) (j : Fin 1024) :
    k0_pay3 (iblk m c 0 t) (iblk m c 2 t) (iblk m c 1 t) (ix2 r j) = N m c (row t r) j := by
  pointwise [k0_pay3]
  simp only [rd0, rd1, rd2]
  rfl

theorem out_h (c : Dev nD) (t : Fin cfg0.N) (r : Fin 512) (j : Fin 1024) :
    out0_4 (iblk m c 0 t) (iblk m c 1 t) (iblk m c 2 t) (iblk m c 3 t) (ix2 r j) = N m c (row t r) j := by
  frame_out
  exact norm_at m c t r j

/-- The projection, with the weight at four column blocks. -/
theorem out_p (c : Dev nD) (t : Fin cfg0.N) (r : Fin 512) (l : Fin 4096) :
    out0_5 (iblk m c 0 t) (iblk m c 1 t) (iblk m c 2 t) (iblk m c 3 t) (ix2 r l)
      = ∑ k : Fin 1024, N m c (row t r) k * W m c k l := by
  have hn : k0_pay6 (iblk m c 0 t) (iblk m c 1 t) (iblk m c 2 t) (iblk m c 3 t)
      = k0_pay3 (iblk m c 0 t) (iblk m c 2 t) (iblk m c 1 t) := by
    unfold k0_pay6
    frame_out
  frame_out
  canon_tiles x h
  all_goals
    idx_vars x
    obtain rfl : r = x0 := Fin.ext (by omega)
  · rw [hn]
    pointwise [k0_pay2, r0_8]
    simp only [norm_at, rd3]
    exact Finset.sum_congr rfl fun k _ => congrArg (fun l => _ * W m c k l) (Fin.ext h1.symm)
  · rw [hn]
    pointwise [k0_pay1, r0_6]
    simp only [norm_at, rd3]
    exact Finset.sum_congr rfl fun k _ => congrArg (fun l => _ * W m c k l) (Fin.ext h1.symm)
  · pointwise [k0_pay5, r0_4]
    simp only [norm_at, rd3]
    exact Finset.sum_congr rfl fun k _ => congrArg (fun l => _ * W m c k l) (Fin.ext h1.symm)
  · pointwise [k0_pay4, r0_2]
    simp only [norm_at, rd3]
    exact Finset.sum_congr rfl fun k _ => congrArg (fun l => _ * W m c k l)
      (Fin.ext ((Nat.zero_add _).trans h1.symm))

/-- The normalised rows the kernel returns. -/
theorem final_h (c : Dev nD) : (dats m 0 c).arrAt 4 cfg0.N
    = fun y : S4096x1024.Idx => (N m c (y 0) (y 1) : EReal) := by
  refine (dats m 0 c).arrAt_eq_of_covers 4 _ (by decide +kernel) fun t hf y => ?_
  blk_simp
  rw [after0_4]
  change S512x1024.Idx at y
  idx_vars y
  have hr : (win0_4.blk t).view.emb (ix2 y0 y1) = ix2 (row t y0) y1 := by
    unfold row
    blk_ext [idx t]
  rw [hr]
  exact out_h m c t y0 y1

/-- The projection the kernel returns. -/
theorem final_p (c : Dev nD) : (dats m 0 c).arrAt 5 cfg0.N
    = fun y : S4096x4096.Idx => (∑ k : Fin 1024, N m c (y 0) k * W m c k (y 1) : EReal) := by
  refine (dats m 0 c).arrAt_eq_of_covers 5 _ (by decide +kernel) fun t hf y => ?_
  blk_simp
  rw [after0_5]
  change S512x4096.Idx at y
  idx_vars y
  have hr : (win0_5.blk t).view.emb (ix2 y0 y1) = ix2 (row t y0) y1 := by
    unfold row
    blk_ext [idx t]
  rw [hr]
  exact out_p m c t y0 y1

end Cert.Forward.In

end
-- ==== Proof.Forward.InClaim.lean ====
/- The claim about the first modulated normalisation and its projection. -/
module

public import proofs.«01_k».proof.Defs
public import proofs.«01_k».proof.Proof.Gen.Reference10Ideal.Run
public import proofs.«01_k».proof.Proof.Forward.In

@[expose] public section

set_option maxRecDepth 16384

noncomputable section

open Idealize.ShloMosaic Idealize.ShloMosaic.TcCoe Idealize.SL.Sem

namespace Cert.Forward.In

section
open Cert.Reference10Ideal Cert.Reference10Ideal.Gen

/-- The reference's normalised rows. -/
def normV (x : FVec Ideal S4096x1024 .f32) (sh sc : FVec Ideal S1024 .f32) : FVec Ideal S4096x1024 .f32 :=
  addf (mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1
      (addf (broadcastInDim S1024 ![] bcast_S_S1024 (constant S_ .f32 0x3F800000#32)) sc))))
    (broadcastInDim S4096x1024 ![0, 1] bcast_S1x1024_S4096x1024_0_1 (broadcastInDim S1x1024 ![1] bcast_S1024_S1x1024_1 sh))

theorem normV_at (x : FVec Ideal S4096x1024 .f32) (sh sc : FVec Ideal S1024 .f32) (i : Fin 4096) (j : Fin 1024) :
    normV x sh sc (ix2 i j) = nrow (fun j => x (ix2 i j)) (fun j => sc (ix1 j)) (fun j => sh (ix1 j)) j := by
  pointwise [normV]
  rfl

/-- The reference's projection. -/
def projV (x : FVec Ideal S4096x1024 .f32) (sh sc : FVec Ideal S1024 .f32) (w : FVec Ideal S1024x4096 .f32) :
    FVec Ideal S4096x4096 .f32 :=
  Host.dotGeneral dot_S4096x1024_S1024x4096_S4096x4096_1_0_0_1_n_n none (normV x sh sc) w

theorem projV_at (x : FVec Ideal S4096x1024 .f32) (sh sc : FVec Ideal S1024 .f32) (w : FVec Ideal S1024x4096 .f32)
    (i : Fin 4096) (l : Fin 4096) : projV x sh sc w (ix2 i l)
      = (∑ k : Fin 1024, nrow (fun j => x (ix2 i j)) (fun j => sc (ix1 j)) (fun j => sh (ix1 j)) k * w (ix2 k l) : EReal) := by
  pointwise [projV]
  simp only [normV_at]

end

set_option maxHeartbeats 1600000 in
/-- The kernel's normalised rows and its projection are the reference's. -/
theorem algebraic : Cert.algebraic_Kernel10Ideal_Reference10Ideal := by
  pair_intro
  · run_from Cert.Kernel10Ideal.Gen.run_main m g
  · run_from Cert.Reference10Ideal.Value.run m' g'
    · rw [final_h m c]
      funext y
      idx_vars y
      exact normV_at _ _ _ y0 y1
    · rw [final_p m c]
      funext y
      idx_vars y
      exact projV_at _ _ _ _ y0 y1

end Cert.Forward.In

end
-- ==== Proof.Forward.Down.lean ====
/- A channel mixer's down projection, the gated residual sum and the two modulated normalisations after it (program `Kernel11Ideal`): what the kernel computes, entry by entry. -/
module

public import proofs.«01_k».proof.Proof.Gen.Kernel11Ideal.Value
public import Idealize.ShloMosaic.Lib.Pipeline.ValueKit
public import Idealize.ShloMosaic.Lib.Pipeline.ReadBack
public import Idealize.ShloMosaic.Lib.Claim
public import proofs.«01_k».proof.Proof.Forward.Row

@[expose] public section

set_option maxRecDepth 16384

noncomputable section

open Idealize.ShloMosaic Idealize.ShloMosaic.TcCoe Idealize.SL.Sem
open Idealize.ShloMosaic.Pipeline (Dat)

namespace Cert.Forward.Down
open Cert.Kernel11Ideal Cert.Kernel11Ideal.Gen Cert.Premix

variable (m : (ℓ : Loc nD τ sig) → Buf (Elt Ideal) ℓ)

/-- Which block each window reads or writes at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![0, 0]
    ∧ win0_6.index t = ![0, 0] ∧ win0_7.index t = ![0, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The product's left rows. -/
def A (c : Dev nD) (i : Fin 4096) (k : Fin 2816) : EReal := m (c.tc.loc main_arg0) (ix2 i k)
/-- The product's weight. -/
def W (c : Dev nD) (k : Fin 2816) (j : Fin 1024) : EReal := m (c.tc.loc main_arg1) (ix2 k j)
/-- The rows the product is added to. -/
def X (c : Dev nD) (i : Fin 4096) (j : Fin 1024) : EReal := m (c.tc.loc main_arg2) (ix2 i j)
/-- The gate. -/
def G (c : Dev nD) (j : Fin 1024) : EReal := m (c.tc.loc main_arg3) (ix1 j)
/-- The first shift. -/
def SH0 (c : Dev nD) (j : Fin 1024) : EReal := m (c.tc.loc main_arg4) (ix1 j)
/-- The first scale. -/
def SC0 (c : Dev nD) (j : Fin 1024) : EReal := m (c.tc.loc main_arg5) (ix1 j)
/-- The second shift. -/
def SH1 (c : Dev nD) (j : Fin 1024) : EReal := m (c.tc.loc main_arg6) (ix1 j)
/-- The second scale. -/
def SC1 (c : Dev nD) (j : Fin 1024) : EReal := m (c.tc.loc main_arg7) (ix1 j)

theorem row_lt (t : Fin cfg0.N) (r : Fin 512) : t.val * 512 + r.val < 4096 := by
  have := t.isLt; have h : cfg0.N = 8 := N_0; omega
/-- Row `r` of the block of grid point `t`. -/
def row (t : Fin cfg0.N) (r : Fin 512) : Fin 4096 := ⟨t.val * 512 + r.val, row_lt t r⟩

theorem rd0 (c : Dev nD) (t : Fin cfg0.N) (r : Fin 512) (k : Fin 2816) : iblk m c 0 t (ix2 r k) = A m c (row t r) k := by
  unfold A row
  blk_point [iblk, V, idx t]

theorem rd1 (c : Dev nD) (t : Fin cfg0.N) (k : Fin 2816) (j : Fin 1024) : iblk m c 1 t (ix3 0 k j) = W m c k j := by
  unfold W
  blk_point [iblk, V, idx t]

theorem rd2 (c : Dev nD) (t : Fin cfg0.N) (r : Fin 512) (j : Fin 1024) : iblk m c 2 t (ix2 r j) = X m c (row t r) j := by
  unfold X row
  blk_point [iblk, V, idx t]

theorem rd3 (c : Dev nD) (t : Fin cfg0.N) (j : Fin 1024) : iblk m c 3 t (ix2 0 j) = G m c j := by
  unfold G
  blk_point [iblk, V, idx t]

theorem rd4 (c : Dev nD) (t : Fin cfg0.N) (j : Fin 1024) : iblk m c 4 t (ix2 0 j) = SH0 m c j := by
  unfold SH0
  blk_point [iblk, V, idx t]

theorem rd5 (c : Dev nD) (t : Fin cfg0.N) (j : Fin 1024) : iblk m c 5 t (ix2 0 j) = SC0 m c j := by
  unfold SC0
  blk_point [iblk, V, idx t]

theorem rd6 (c : Dev nD) (t : Fin cfg0.N) (j : Fin 1024) : iblk m c 6 t (ix2 0 j) = SH1 m c j := by
  unfold SH1
  blk_point [iblk, V, idx t]

theorem rd7 (c : Dev nD) (t : Fin cfg0.N) (j : Fin 1024) : iblk m c 7 t (ix2 0 j) = SC1 m c j := by
  unfold SC1
  blk_point [iblk, V, idx t]

/-- The rows after the residual sum. -/
def R (c : Dev nD) (i : Fin 4096) : Fin 1024 → EReal := resid (X m c i) (G m c) (A m c i) (W m c)

theorem pay_y (c : Dev nD) (t : Fin cfg0.N) (r : Fin 512) (j : Fin 1024) :
    k0_pay2 (iblk m c 0 t) (iblk m c 1 t) (ix2 r j) = prow (A m c (row t r)) (W m c) j := by
  pointwise [k0_pay2]
  simp only [rd0, rd1]
  rfl

theorem pay_x (c : Dev nD) (t : Fin cfg0.N) (r : Fin 512) (j : Fin 1024) :
    k0_pay3 (iblk m c 0 t) (iblk m c 1 t) (iblk m c 2 t) (iblk m c 3 t) (ix2 r j) = R m c (row t r) j := by
  pointwise [k0_pay3]
  simp only [pay_y, rd2, rd3]
  rfl

theorem pay_n (c : Dev nD) (t : Fin cfg0.N) (r : Fin 512) (j : Fin 1024) :
    k0_pay4 (iblk m c 0 t) (iblk m c 1 t) (iblk m c 2 t) (iblk m c 3 t) (ix2 r j)
      = R m c (row t r) j * rinv (R m c (row t r)) := by
  pointwise [k0_pay4]
  simp only [pay_x]
  rfl

theorem out_y (c : Dev nD) (t : Fin cfg0.N) (r : Fin 512) (j : Fin 1024) :
    out0_8 (iblk m c 0 t) (iblk m c 1 t) (iblk m c 2 t) (iblk m c 3 t) (iblk m c 4 t) (iblk m c 5 t) (iblk m c 6 t) (iblk m c 7 t) (ix2 r j)
      = prow (A m c (row t r)) (W m c) j := by
  frame_out
  exact pay_y m c t r j

/-- The product. -/
theorem final_y (c : Dev nD) : (dats m 0 c).arrAt 8 cfg0.N
    = fun y : S4096x1024.Idx => (prow (A m c (y 0)) (W m c) (y 1) : EReal) := by
  refine (dats m 0 c).arrAt_eq_of_covers 8 _ (by decide +kernel) fun t hf y => ?_
  blk_simp
  rw [after0_8]
  change S512x1024.Idx at y
  idx_vars y
  have hr : (win0_8.blk t).view.emb (ix2 y0 y1) = ix2 (row t y0) y1 := by
    unfold row
    blk_ext [idx t]
  rw [hr]
  exact out_y m c t y0 y1

theorem out_x (c : Dev nD) (t : Fin cfg0.N) (r : Fin 512) (j : Fin 1024) :
    out0_9 (iblk m c 0 t) (iblk m c 1 t) (iblk m c 2 t) (iblk m c 3 t) (iblk m c 4 t) (iblk m c 5 t) (iblk m c 6 t) (iblk m c 7 t) (ix2 r j)
      = R m c (row t r) j := by
  frame_out
  exact pay_x m c t r j

/-- The residual sum. -/
theorem final_x (c : Dev nD) : (dats m 0 c).arrAt 9 cfg0.N
    = fun y : S4096x1024.Idx => (R m c (y 0) (y 1) : EReal) := by
  refine (dats m 0 c).arrAt_eq_of_covers 9 _ (by decide +kernel) fun t hf y => ?_
  blk_simp
  rw [after0_9]
  change S512x1024.Idx at y
  idx_vars y
  have hr : (win0_9.blk t).view.emb (ix2 y0 y1) = ix2 (row t y0) y1 := by
    unfold row
    blk_ext [idx t]
  rw [hr]
  exact out_x m c t y0 y1

theorem out_h0 (c : Dev nD) (t : Fin cfg0.N) (r : Fin 512) (j : Fin 1024) :
    out0_10 (iblk m c 0 t) (iblk m c 1 t) (iblk m c 2 t) (iblk m c 3 t) (iblk m c 4 t) (iblk m c 5 t) (iblk m c 6 t) (iblk m c 7 t) (ix2 r j)
      = nrow (R m c (row t r)) (SC0 m c) (SH0 m c) j := by
  frame_out
  pointwise [k0_pay5]
  simp only [pay_n, rd4, rd5]
  rfl

/-- The normalised rows of the first modulation. -/
theorem final_h0 (c : Dev nD) : (dats m 0 c).arrAt 10 cfg0.N
    = fun y : S4096x1024.Idx => (nrow (R m c (y 0)) (SC0 m c) (SH0 m c) (y 1) : EReal) := by
  refine (dats m 0 c).arrAt_eq_of_covers 10 _ (by decide +kernel) fun t hf y => ?_
  blk_simp
  rw [after0_10]
  change S512x1024.Idx at y
  idx_vars y
  have hr : (win0_10.blk t).view.emb (ix2 y0 y1) = ix2 (row t y0) y1 := by
    unfold row
    blk_ext [idx t]
  rw [hr]
  exact out_h0 m c t y0 y1

theorem out_h1 (c : Dev nD) (t : Fin cfg0.N) (r : Fin 512) (j : Fin 1024) :
    out0_11 (iblk m c 0 t) (iblk m c 1 t) (iblk m c 2 t) (iblk m c 3 t) (iblk m c 4 t) (iblk m c 5 t) (iblk m c 6 t) (iblk m c 7 t) (ix2 r j)
      = nrow (R m c (row t r)) (SC1 m c) (SH1 m c) j := by
  frame_out
  pointwise [k0_pay1]
  simp only [pay_n, rd6, rd7]
  rfl

/-- The normalised rows of the second modulation. -/
theorem final_h1 (c : Dev nD) : (dats m 0 c).arrAt 11 cfg0.N
    = fun y : S4096x1024.Idx => (nrow (R m c (y 0)) (SC1 m c) (SH1 m c) (y 1) : EReal) := by
  refine (dats m 0 c).arrAt_eq_of_covers 11 _ (by decide +kernel) fun t hf y => ?_
  blk_simp
  rw [after0_11]
  change S512x1024.Idx at y
  idx_vars y
  have hr : (win0_11.blk t).view.emb (ix2 y0 y1) = ix2 (row t y0) y1 := by
    unfold row
    blk_ext [idx t]
  rw [hr]
  exact out_h1 m c t y0 y1

end Cert.Forward.Down

end
-- ==== Proof.Forward.DownClaim.lean ====
/- The claim about a channel mixer's down projection and what follows it. -/
module

public import proofs.«01_k».proof.Defs
public import proofs.«01_k».proof.Proof.Gen.Reference11Ideal.Run
public import proofs.«01_k».proof.Proof.Forward.Down

@[expose] public section

set_option maxRecDepth 16384

noncomputable section

open Idealize.ShloMosaic Idealize.ShloMosaic.TcCoe Idealize.SL.Sem

namespace Cert.Forward.Down

section
open Cert.Reference11Ideal Cert.Reference11Ideal.Gen

/-- The reference's product. -/
def prodV (a : FVec Ideal S4096x2816 .f32) (w : FVec Ideal S2816x1024 .f32) : FVec Ideal S4096x1024 .f32 :=
  Host.dotGeneral dot_S4096x2816_S2816x1024_S4096x1024_1_0_0_1_n_n none a w

theorem prodV_at (a : FVec Ideal S4096x2816 .f32) (w : FVec Ideal S2816x1024 .f32) (i : Fin 4096) (j : Fin 1024) :
    prodV a w (ix2 i j) = prow (fun k => a (ix2 i k)) (fun k j => w (ix2 k j)) j := by
  pointwise [prodV]
  rfl

/-- The reference's residual sum. -/
def residV (x : FVec Ideal S4096x1024 .f32) (g : FVec Ideal S1024 .f32) (y : FVec Ideal S4096x1024 .f32) :
    FVec Ideal S4096x1024 .f32 :=
  addf x (mulf (broadcastInDim S4096x1024 ![0, 1] bcast_S1x1024_S4096x1024_0_1
    (broadcastInDim S1x1024 ![1] bcast_S1024_S1x1024_1 g)) y)

theorem residV_at (x : FVec Ideal S4096x1024 .f32) (g : FVec Ideal S1024 .f32) (a : FVec Ideal S4096x2816 .f32)
    (w : FVec Ideal S2816x1024 .f32) (i : Fin 4096) (j : Fin 1024) : residV x g (prodV a w) (ix2 i j)
      = resid (fun j => x (ix2 i j)) (fun j => g (ix1 j)) (fun k => a (ix2 i k)) (fun k j => w (ix2 k j)) j := by
  pointwise [residV]
  simp only [prodV_at]
  rfl

/-- The reference's normalised rows. -/
def normV (x : FVec Ideal S4096x1024 .f32) (sh sc : FVec Ideal S1024 .f32) : FVec Ideal S4096x1024 .f32 :=
  addf (mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1
      (addf (broadcastInDim S1024 ![] bcast_S_S1024 (constant S_ .f32 0x3F800000#32)) sc))))
    (broadcastInDim S4096x1024 ![0, 1] bcast_S1x1024_S4096x1024_0_1 (broadcastInDim S1x1024 ![1] bcast_S1024_S1x1024_1 sh))

theorem normV_at (x : FVec Ideal S4096x1024 .f32) (sh sc : FVec Ideal S1024 .f32) (i : Fin 4096) (j : Fin 1024) :
    normV x sh sc (ix2 i j) = nrow (fun j => x (ix2 i j)) (fun j => sc (ix1 j)) (fun j => sh (ix1 j)) j := by
  pointwise [normV]
  rfl

/-- The normalised rows of the residual sum. -/
theorem next_at (x : FVec Ideal S4096x1024 .f32) (g : FVec Ideal S1024 .f32) (a : FVec Ideal S4096x2816 .f32)
    (w : FVec Ideal S2816x1024 .f32) (sh sc : FVec Ideal S1024 .f32) (i : Fin 4096) (j : Fin 1024) :
    normV (residV x g (prodV a w)) sh sc (ix2 i j)
      = nrow (resid (fun j => x (ix2 i j)) (fun j => g (ix1 j)) (fun k => a (ix2 i k)) (fun k j => w (ix2 k j)))
          (fun j => sc (ix1 j)) (fun j => sh (ix1 j)) j := by
  rw [normV_at]
  simp only [residV_at]

end

set_option maxHeartbeats 1600000 in
/-- The kernel's results are the reference's. -/
theorem algebraic : Cert.algebraic_Kernel11Ideal_Reference11Ideal := by
  pair_intro
  · run_from Cert.Kernel11Ideal.Gen.run_main m g
  · run_from Cert.Reference11Ideal.Value.run m' g'
    · rw [final_y m c]
      funext y
      idx_vars y
      exact prodV_at _ _ y0 y1
    · rw [final_x m c]
      funext y
      idx_vars y
      exact residV_at _ _ _ _ y0 y1
    · rw [final_h0 m c]
      funext y
      idx_vars y
      exact next_at _ _ _ _ _ _ y0 y1
    · rw [final_h1 m c]
      funext y
      idx_vars y
      exact next_at _ _ _ _ _ _ y0 y1

end Cert.Forward.Down

end
-- ==== Proof.Forward.Out.lean ====
/- A token mixer's output projection, the gated residual sum and the modulated normalisation after it (program `Kernel12Ideal`): what the kernel computes, entry by entry. -/
module

public import proofs.«01_k».proof.Proof.Gen.Kernel12Ideal.Value
public import Idealize.ShloMosaic.Lib.Pipeline.ValueKit
public import Idealize.ShloMosaic.Lib.Pipeline.ReadBack
public import Idealize.ShloMosaic.Lib.Claim
public import proofs.«01_k».proof.Proof.Forward.Row

@[expose] public section

set_option maxRecDepth 16384

noncomputable section

open Idealize.ShloMosaic Idealize.ShloMosaic.TcCoe Idealize.SL.Sem
open Idealize.ShloMosaic.Pipeline (Dat)

namespace Cert.Forward.Out
open Cert.Kernel12Ideal Cert.Kernel12Ideal.Gen Cert.Premix

variable (m : (ℓ : Loc nD τ sig) → Buf (Elt Ideal) ℓ)

/-- Which block each window reads or writes at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The product's left rows. -/
def A (c : Dev nD) (i : Fin 4096) (k : Fin 1024) : EReal := m (c.tc.loc main_arg0) (ix2 i k)
/-- The product's weight. -/
def W (c : Dev nD) (k : Fin 1024) (j : Fin 1024) : EReal := m (c.tc.loc main_arg1) (ix2 k j)
/-- The rows the product is added to. -/
def X (c : Dev nD) (i : Fin 4096) (j : Fin 1024) : EReal := m (c.tc.loc main_arg2) (ix2 i j)
/-- The gate. -/
def G (c : Dev nD) (j : Fin 1024) : EReal := m (c.tc.loc main_arg3) (ix1 j)
/-- The shift. -/
def SH (c : Dev nD) (j : Fin 1024) : EReal := m (c.tc.loc main_arg4) (ix1 j)
/-- The scale. -/
def SC (c : Dev nD) (j : Fin 1024) : EReal := m (c.tc.loc main_arg5) (ix1 j)

theorem row_lt (t : Fin cfg0.N) (r : Fin 512) : t.val * 512 + r.val < 4096 := by
  have := t.isLt; have h : cfg0.N = 8 := N_0; omega
/-- Row `r` of the block of grid point `t`. -/
def row (t : Fin cfg0.N) (r : Fin 512) : Fin 4096 := ⟨t.val * 512 + r.val, row_lt t r⟩

theorem rd0 (c : Dev nD) (t : Fin cfg0.N) (r : Fin 512) (k : Fin 1024) : iblk m c 0 t (ix2 r k) = A m c (row t r) k := by
  unfold A row
  blk_point [iblk, V, idx t]

theorem rd1 (c : Dev nD) (t : Fin cfg0.N) (k : Fin 1024) (j : Fin 1024) : iblk m c 1 t (ix3 0 k j) = W m c k j := by
  unfold W
  blk_point [iblk, V, idx t]

theorem rd2 (c : Dev nD) (t : Fin cfg0.N) (r : Fin 512) (j : Fin 1024) : iblk m c 2 t (ix2 r j) = X m c (row t r) j := by
  unfold X row
  blk_point [iblk, V, idx t]

theorem rd3 (c : Dev nD) (t : Fin cfg0.N) (j : Fin 1024) : iblk m c 3 t (ix2 0 j) = G m c j := by
  unfold G
  blk_point [iblk, V, idx t]

theorem rd4 (c : Dev nD) (t : Fin cfg0.N) (j : Fin 1024) : iblk m c 4 t (ix2 0 j) = SH m c j := by
  unfold SH
  blk_point [iblk, V, idx t]

theorem rd5 (c : Dev nD) (t : Fin cfg0.N) (j : Fin 1024) : iblk m c 5 t (ix2 0 j) = SC m c j := by
  unfold SC
  blk_point [iblk, V, idx t]

/-- The rows after the residual sum. -/
def R (c : Dev nD) (i : Fin 4096) : Fin 1024 → EReal := resid (X m c i) (G m c) (A m c i) (W m c)

theorem pay_y (c : Dev nD) (t : Fin cfg0.N) (r : Fin 512) (j : Fin 1024) :
    k0_pay1 (iblk m c 0 t) (iblk m c 1 t) (ix2 r j) = prow (A m c (row t r)) (W m c) j := by
  pointwise [k0_pay1]
  simp only [rd0, rd1]
  rfl

theorem pay_x (c : Dev nD) (t : Fin cfg0.N) (r : Fin 512) (j : Fin 1024) :
    k0_pay2 (iblk m c 0 t) (iblk m c 1 t) (iblk m c 2 t) (iblk m c 3 t) (ix2 r j) = R m c (row t r) j := by
  pointwise [k0_pay2]
  simp only [pay_y, rd2, rd3]
  rfl

theorem out_y (c : Dev nD) (t : Fin cfg0.N) (r : Fin 512) (j : Fin 1024) :
    out0_6 (iblk m c 0 t) (iblk m c 1 t) (iblk m c 2 t) (iblk m c 3 t) (iblk m c 4 t) (iblk m c 5 t) (ix2 r j)
      = prow (A m c (row t r)) (W m c) j := by
  frame_out
  exact pay_y m c t r j

/-- The product. -/
theorem final_y (c : Dev nD) : (dats m 0 c).arrAt 6 cfg0.N
    = fun y : S4096x1024.Idx => (prow (A m c (y 0)) (W m c) (y 1) : EReal) := by
  refine (dats m 0 c).arrAt_eq_of_covers 6 _ (by decide +kernel) fun t hf y => ?_
  blk_simp
  rw [after0_6]
  change S512x1024.Idx at y
  idx_vars y
  have hr : (win0_6.blk t).view.emb (ix2 y0 y1) = ix2 (row t y0) y1 := by
    unfold row
    blk_ext [idx t]
  rw [hr]
  exact out_y m c t y0 y1

theorem out_x (c : Dev nD) (t : Fin cfg0.N) (r : Fin 512) (j : Fin 1024) :
    out0_7 (iblk m c 0 t) (iblk m c 1 t) (iblk m c 2 t) (iblk m c 3 t) (iblk m c 4 t) (iblk m c 5 t) (ix2 r j)
      = R m c (row t r) j := by
  frame_out
  exact pay_x m c t r j

/-- The residual sum. -/
theorem final_x (c : Dev nD) : (dats m 0 c).arrAt 7 cfg0.N
    = fun y : S4096x1024.Idx => (R m c (y 0) (y 1) : EReal) := by
  refine (dats m 0 c).arrAt_eq_of_covers 7 _ (by decide +kernel) fun t hf y => ?_
  blk_simp
  rw [after0_7]
  change S512x1024.Idx at y
  idx_vars y
  have hr : (win0_7.blk t).view.emb (ix2 y0 y1) = ix2 (row t y0) y1 := by
    unfold row
    blk_ext [idx t]
  rw [hr]
  exact out_x m c t y0 y1

theorem out_h (c : Dev nD) (t : Fin cfg0.N) (r : Fin 512) (j : Fin 1024) :
    out0_8 (iblk m c 0 t) (iblk m c 1 t) (iblk m c 2 t) (iblk m c 3 t) (iblk m c 4 t) (iblk m c 5 t) (ix2 r j)
      = nrow (R m c (row t r)) (SC m c) (SH m c) j := by
  frame_out
  pointwise [k0_pay3]
  simp only [pay_x, rd4, rd5]
  rfl

/-- The normalised rows. -/
theorem final_h (c : Dev nD) : (dats m 0 c).arrAt 8 cfg0.N
    = fun y : S4096x1024.Idx => (nrow (R m c (y 0)) (SC m c) (SH m c) (y 1) : EReal) := by
  refine (dats m 0 c).arrAt_eq_of_covers 8 _ (by decide +kernel) fun t hf y => ?_
  blk_simp
  rw [after0_8]
  change S512x1024.Idx at y
  idx_vars y
  have hr : (win0_8.blk t).view.emb (ix2 y0 y1) = ix2 (row t y0) y1 := by
    unfold row
    blk_ext [idx t]
  rw [hr]
  exact out_h m c t y0 y1

end Cert.Forward.Out

end
-- ==== Proof.Forward.OutClaim.lean ====
/- The claim about a token mixer's output projection and what follows it. -/
module

public import proofs.«01_k».proof.Defs
public import proofs.«01_k».proof.Proof.Gen.Reference12Ideal.Run
public import proofs.«01_k».proof.Proof.Forward.Out

@[expose] public section

set_option maxRecDepth 16384

noncomputable section

open Idealize.ShloMosaic Idealize.ShloMosaic.TcCoe Idealize.SL.Sem

namespace Cert.Forward.Out

section
open Cert.Reference12Ideal Cert.Reference12Ideal.Gen

/-- The reference's product. -/
def prodV (a : FVec Ideal S4096x1024 .f32) (w : FVec Ideal S1024x1024 .f32) : FVec Ideal S4096x1024 .f32 :=
  Host.dotGeneral dot_S4096x1024_S1024x1024_S4096x1024_1_0_0_1_n_n none a w

theorem prodV_at (a : FVec Ideal S4096x1024 .f32) (w : FVec Ideal S1024x1024 .f32) (i : Fin 4096) (j : Fin 1024) :
    prodV a w (ix2 i j) = prow (fun k => a (ix2 i k)) (fun k j => w (ix2 k j)) j := by
  pointwise [prodV]
  rfl

/-- The reference's residual sum. -/
def residV (x : FVec Ideal S4096x1024 .f32) (g : FVec Ideal S1024 .f32) (y : FVec Ideal S4096x1024 .f32) :
    FVec Ideal S4096x1024 .f32 :=
  addf x (mulf (broadcastInDim S4096x1024 ![0, 1] bcast_S1x1024_S4096x1024_0_1
    (broadcastInDim S1x1024 ![1] bcast_S1024_S1x1024_1 g)) y)

theorem residV_at (x : FVec Ideal S4096x1024 .f32) (g : FVec Ideal S1024 .f32) (a : FVec Ideal S4096x1024 .f32)
    (w : FVec Ideal S1024x1024 .f32) (i : Fin 4096) (j : Fin 1024) : residV x g (prodV a w) (ix2 i j)
      = resid (fun j => x (ix2 i j)) (fun j => g (ix1 j)) (fun k => a (ix2 i k)) (fun k j => w (ix2 k j)) j := by
  pointwise [residV]
  simp only [prodV_at]
  rfl

/-- The reference's normalised rows. -/
def normV (x : FVec Ideal S4096x1024 .f32) (sh sc : FVec Ideal S1024 .f32) : FVec Ideal S4096x1024 .f32 :=
  addf (mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1
      (addf (broadcastInDim S1024 ![] bcast_S_S1024 (constant S_ .f32 0x3F800000#32)) sc))))
    (broadcastInDim S4096x1024 ![0, 1] bcast_S1x1024_S4096x1024_0_1 (broadcastInDim S1x1024 ![1] bcast_S1024_S1x1024_1 sh))

theorem normV_at (x : FVec Ideal S4096x1024 .f32) (sh sc : FVec Ideal S1024 .f32) (i : Fin 4096) (j : Fin 1024) :
    normV x sh sc (ix2 i j) = nrow (fun j => x (ix2 i j)) (fun j => sc (ix1 j)) (fun j => sh (ix1 j)) j := by
  pointwise [normV]
  rfl

/-- The normalised rows of the residual sum. -/
theorem next_at (x : FVec Ideal S4096x1024 .f32) (g : FVec Ideal S1024 .f32) (a : FVec Ideal S4096x1024 .f32)
    (w : FVec Ideal S1024x1024 .f32) (sh sc : FVec Ideal S1024 .f32) (i : Fin 4096) (j : Fin 1024) :
    normV (residV x g (prodV a w)) sh sc (ix2 i j)
      = nrow (resid (fun j => x (ix2 i j)) (fun j => g (ix1 j)) (fun k => a (ix2 i k)) (fun k j => w (ix2 k j)))
          (fun j => sc (ix1 j)) (fun j => sh (ix1 j)) j := by
  rw [normV_at]
  simp only [residV_at]

end

set_option maxHeartbeats 1600000 in
/-- The kernel's results are the reference's. -/
theorem algebraic : Cert.algebraic_Kernel12Ideal_Reference12Ideal := by
  pair_intro
  · run_from Cert.Kernel12Ideal.Gen.run_main m g
  · run_from Cert.Reference12Ideal.Value.run m' g'
    · rw [final_y m c]
      funext y
      idx_vars y
      exact prodV_at _ _ y0 y1
    · rw [final_x m c]
      funext y
      idx_vars y
      exact residV_at _ _ _ _ y0 y1
    · rw [final_h m c]
      funext y
      idx_vars y
      exact next_at _ _ _ _ _ _ y0 y1

end Cert.Forward.Out

end
-- ==== Proof.Forward.Up.lean ====
/- A channel mixer's up projection, its causal convolution and its gate (program `Kernel9Ideal`): what the kernel computes,
   entry by entry.  Each grid point keeps the last eight rows of its product for the next one. -/
module

public import proofs.«01_k».proof.Proof.Gen.Kernel9Ideal.Value
public import Idealize.ShloMosaic.Lib.Pipeline.ValueKit
public import Idealize.ShloMosaic.Lib.Pipeline.ReadBack
public import Idealize.ShloMosaic.Lib.Claim
public import proofs.«01_k».proof.Proof.Conv.Acc
public import proofs.«01_k».proof.Proof.Forward.Row

@[expose] public section

set_option maxRecDepth 16384

noncomputable section

open Idealize.ShloMosaic Idealize.ShloMosaic.TcCoe Idealize.SL.Sem
open Idealize.ShloMosaic.Pipeline (Dat)

namespace Cert.Forward.Up
open Cert.Kernel9Ideal Cert.Kernel9Ideal.Gen
open Cert.Conv (conv back canon_covered)

variable (m : (ℓ : Loc nD τ sig) → Buf (Elt Ideal) ℓ)

/-- Which block each window reads or writes at a grid point. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, t.val, 0] ∧ win0_5.index t = ![0, t.val, 0]
    ∧ win0_6.index t = ![t.val, 0] :=
  (by decide +kernel : ∀ t : Fin grid0.N, _)

/-- The product's left rows. -/
def H (c : Dev nD) (n : Fin 4096) (k : Fin 1024) : EReal := m (c.tc.loc main_arg0) (ix2 n k)
/-- The product's weight. -/
def W (c : Dev nD) (k : Fin 1024) (l : Fin 5632) : EReal := m (c.tc.loc main_arg1) (ix2 k l)
/-- The three taps. -/
def CW (c : Dev nD) (l : Fin 5632) (k : Fin 3) : EReal := m (c.tc.loc main_arg2) (ix2 k l)
/-- The bias. -/
def CB (c : Dev nD) (l : Fin 5632) : EReal := m (c.tc.loc main_arg3) (ix1 l)
/-- The convolution's input, the product. -/
def U (c : Dev nD) (l : Fin 5632) (n : Fin 4096) : EReal := prow (H m c n) (W m c) l

/-- Column `l` of half `g`. -/
def half (g : Fin 2) (l : Fin 2816) : Fin 5632 := ⟨g.val * 2816 + l.val, by omega⟩
/-- Column `l` of part `j` of half `g`. -/
def lane (j : Fin 2) (l : Fin 1408) : Fin 2816 := ⟨j.val * 1408 + l.val, by omega⟩

theorem row_lt (t : Fin cfg0.N) (r : Fin 256) : t.val * 256 + r.val < 4096 := by
  have := t.isLt; have h : cfg0.N = 16 := N_0; omega
/-- Row `r` of the block of grid point `t`. -/
def row (t : Fin cfg0.N) (r : Fin 256) : Fin 4096 := ⟨t.val * 256 + r.val, row_lt t r⟩

theorem rd0 (c : Dev nD) (t : Fin cfg0.N) (r : Fin 256) (k : Fin 1024) : iblk m c 0 t (ix2 r k) = H m c (row t r) k := by
  unfold H row
  blk_point [iblk, V, idx t]

theorem rd1 (c : Dev nD) (t : Fin cfg0.N) (p : Fin 4) (k : Fin 1024) (l : Fin 1408) :
    iblk m c 1 t (ix3 p k l) = W m c k ⟨p.val * 1408 + l.val, by omega⟩ := by
  unfold W
  blk_point [iblk, V, idx t]

theorem rd2 (c : Dev nD) (t : Fin cfg0.N) (g : Fin 2) (k : Fin 3) (l : Fin 2816) :
    iblk m c 2 t (ix3 g k l) = CW m c (half g l) k := by
  unfold CW half
  blk_point [iblk, V, idx t]

theorem rd3 (c : Dev nD) (t : Fin cfg0.N) (g : Fin 2) (l : Fin 2816) :
    iblk m c 3 t (ix3 g 0 l) = CB m c (half g l) := by
  unfold CB half
  blk_point [iblk, V, idx t]

/-- A column with eight rows of zeros before it, read at any row number. -/
def lag (u : Fin 4096 → EReal) (n : ℕ) : EReal := if h : 8 ≤ n ∧ n - 8 < 4096 then u ⟨n - 8, h.2⟩ else 0

theorem lag_row (u : Fin 4096 → EReal) (t : Fin cfg0.N) (r : Fin 256) :
    lag u (t.val * 256 + (8 + r.val)) = u (row t r) := by
  have := row_lt t r
  unfold lag row
  rw [dif_pos (by omega)]
  exact congrArg u (Fin.ext (by simp only; omega))

theorem lag_back (u : Fin 4096 → EReal) (t : Fin cfg0.N) (r : Fin 256) (k e : ℕ) (hk : k ≤ 8) (he : e + k = 8 + r.val) :
    lag u (t.val * 256 + e) = back k u (row t r) := by
  have := row_lt t r
  unfold lag back row
  by_cases h : t.val * 256 + r.val < k
  · rw [dif_neg (by omega), if_pos h]
  · rw [dif_pos (by omega), if_neg h]
    exact congrArg u (Fin.ext (by simp only; omega))

/-- The convolution's rows from the block's rows with the eight before them. -/
theorem conv_of {w : Fin 3 → EReal} {b : EReal} {u : Fin 4096 → EReal} {t : Fin cfg0.N} {r : Fin 256} {x y z : EReal}
    (e0 e1 e2 : ℕ) (hx : x = lag u (t.val * 256 + e0)) (hy : y = lag u (t.val * 256 + e1))
    (hz : z = lag u (t.val * 256 + e2)) (h0 : e0 = 8 + r.val) (h1 : e1 + 1 = 8 + r.val) (h2 : e2 + 2 = 8 + r.val) :
    w 2 * x + w 1 * y + w 0 * z + b = conv w b u (row t r) := by
  rw [hx, hy, hz, h0, lag_row, lag_back u t r 1 e1 (by omega) h1, lag_back u t r 2 e2 (by omega) h2]
  rfl

section
variable (u : Fin 4096 → EReal) (t : Fin cfg0.N) (l : Fin 1408)
  (p : FVec Ideal S256x1408 .f32) (v : Vec Ideal S1x1x8x1408 .f32)
  (hp : ∀ r, p (ix2 r l) = u (row t r)) (hv : ∀ s, v (ix4 0 0 s l) = lag u (t.val * 256 + s.val))

include hp hv in
/-- The rows of a block with the eight rows before them. -/
theorem join_at (e : Fin 264) :
    (concatenate S264x1408 0 [⟨S8x1408, shapeCast S8x1408 v shapeCasts_S1x1x8x1408_S8x1408⟩, ⟨S256x1408, p⟩]
      concatenates_S8x1408_S256x1408_S264x1408_d0 : FVec Ideal S264x1408 .f32) (ix2 e l)
      = lag u (t.val * 256 + e.val) := by
  pointwise
  split
  · exact hv _
  · rename_i h
    have he : 8 ≤ e.val := Nat.not_lt.mp h
    refine (hp _).trans ((lag_row u t _).symm.trans (congrArg (lag u) ?_))
    show t.val * 256 + (8 + (e.val - 8)) = _
    omega

/-- The convolution of the block's rows, from an array `e` of the rows with the eight before them. -/
theorem taps_at (e : FVec Ideal S264x1408 .f32) (he : ∀ i, e (ix2 i l) = lag u (t.val * 256 + i.val))
    (w : Fin 3 → EReal) (b : EReal) (r : Fin 256) (h0 h1 h2) :
    w 2 * e (ix2 ⟨8 + r.val, h0⟩ l) + w 1 * e (ix2 ⟨(8 + r.val + 264 - 1) % 264, h1⟩ l)
      + w 0 * e (ix2 ⟨(8 + r.val + 264 - 2) % 264, h2⟩ l) + b = conv w b u (row t r) :=
  conv_of _ _ _ (he _) (he _) (he _) rfl (by simp only; omega) (by simp only; omega)

/-- The gates' convolution in the first part of the columns. -/
theorem conv13 (a : Vec Ideal S256x1024 .bf16) (w : Vec Ideal S1x1024x1408 .bf16)
    (hp : ∀ r, k0_pay6 a w (ix2 r l) = u (row t r)) (hv : ∀ s, v (ix4 0 0 s l) = lag u (t.val * 256 + s.val))
    (cw : Vec Ideal S1x3x2816 .f32) (cb : Vec Ideal S1x1x2816 .f32) (r : Fin 256) :
    k0_pay13 (k0_pay7 a w v) (k0_pay9 cw) (k0_pay10 cb) (k0_pay11 a w v cw) (k0_pay12 cw) 1#32 (ix2 r l)
      = conv (fun k => cw (ix3 0 k ⟨l.val, by omega⟩)) (cb (ix3 0 0 ⟨l.val, by omega⟩)) u (row t r) := by
  have hj : ∀ e, k0_pay7 a w v (ix2 e l) = _ := join_at u t l (k0_pay6 a w) v hp hv
  pointwise [k0_pay13, k0_pay9, k0_pay10, k0_pay11, k0_pay12]
  exact taps_at u t l _ hj (fun k => cw (ix3 0 k ⟨l.val, by omega⟩)) _ r _ _ _

/-- The values' convolution in the first part of the columns. -/
theorem conv21 (a : FVec Ideal S256x1024 .bf16) (w : Vec Ideal S1x1024x1408 .bf16)
    (hp : ∀ r, k0_pay17 a w (ix2 r l) = u (row t r)) (hv : ∀ s, v (ix4 0 0 s l) = lag u (t.val * 256 + s.val))
    (cw : Vec Ideal S1x3x2816 .f32) (cb : Vec Ideal S1x1x2816 .f32) (r : Fin 256) :
    k0_pay21 (k0_pay18 a w v) (k0_pay20 cw) cb (ix2 r l)
      = conv (fun k => cw (ix3 0 k ⟨l.val, by omega⟩)) (cb (ix3 0 0 ⟨l.val, by omega⟩)) u (row t r) := by
  have hj : ∀ e, k0_pay18 a w v (ix2 e l) = _ := join_at u t l (k0_pay17 a w) v hp hv
  pointwise [k0_pay21, k0_pay20]
  exact taps_at u t l _ hj (fun k => cw (ix3 0 k ⟨l.val, by omega⟩)) _ r _ _ _

include hp hv in
/-- The gates' convolution in the second part of the columns. -/
theorem conv28 (cw : Vec Ideal S1x3x2816 .f32) (cb : Vec Ideal S1x1x2816 .f32) (r : Fin 256) :
    k0_pay28 p v cw cb (ix2 r l)
      = conv (fun k => cw (ix3 0 k ⟨1408 + l.val, by omega⟩)) (cb (ix3 0 0 ⟨1408 + l.val, by omega⟩)) u (row t r) := by
  have hj := join_at u t l p v hp hv
  unfold k0_pay28
  generalize (concatenate S264x1408 0 [⟨S8x1408, shapeCast S8x1408 v shapeCasts_S1x1x8x1408_S8x1408⟩, ⟨S256x1408, p⟩]
      concatenates_S8x1408_S256x1408_S264x1408_d0 : FVec Ideal S264x1408 .f32) = e at hj ⊢
  pointwise
  exact taps_at u t l _ hj (fun k => cw (ix3 0 k ⟨1408 + l.val, by omega⟩)) _ r _ _ _

/-- The values' convolution in the second part of the columns. -/
theorem conv34 (q : FVec Ideal S256x1408 .bf16)
    (hp : ∀ r, k0_pay32 q (ix2 r l) = u (row t r)) (hv : ∀ s, v (ix4 0 0 s l) = lag u (t.val * 256 + s.val))
    (cw : Vec Ideal S1x3x2816 .f32) (cb : Vec Ideal S1x1x2816 .f32) (r : Fin 256) :
    k0_pay34 q v cw cb (ix2 r l)
      = conv (fun k => cw (ix3 0 k ⟨1408 + l.val, by omega⟩)) (cb (ix3 0 0 ⟨1408 + l.val, by omega⟩)) u (row t r) := by
  have hj := join_at u t l (k0_pay32 q) v hp hv
  unfold k0_pay34
  generalize (concatenate S264x1408 0 [⟨S8x1408, shapeCast S8x1408 v shapeCasts_S1x1x8x1408_S8x1408⟩, ⟨S256x1408, k0_pay32 q⟩]
      concatenates_S8x1408_S256x1408_S264x1408_d0 : FVec Ideal S264x1408 .f32) = e at hj ⊢
  pointwise
  exact taps_at u t l _ hj (fun k => cw (ix3 0 k ⟨1408 + l.val, by omega⟩)) _ r _ _ _

end

/-- The convolution of the product, column `l` of half `g`. -/
def CV (c : Dev nD) (g : Fin 2) (l : Fin 2816) (n : Fin 4096) : EReal :=
  conv (CW m c (half g l)) (CB m c (half g l)) (U m c (half g l)) n

section
variable (c : Dev nD) (t : Fin cfg0.N) (C : Vec Ideal S2x2x8x1408 .f32)
  (hC : ∀ (g j : Fin 2) (s : Fin 8) (l : Fin 1408), C (ix4 g j s l) = lag (U m c (half g (lane j l))) (t.val * 256 + s.val))

/-- The product's tiles. -/
theorem u_00 (r : Fin 256) (l : Fin 1408) : k0_pay4 (F := Ideal) (iblk m c 0 t)
    (View.ld (iblk m c 1 t) (Rect.unit ![0, 0, 0] ![1, 1024, 1408] inb_S4x1024x1408_S1x1024x1408_0_0_0)) (ix2 r l) = U m c (half 0 (lane 0 l)) (row t r) := by
  pointwise [k0_pay4, k0_pay3]
  simp only [rd0, rd1]
  exact Finset.sum_congr rfl fun k _ => congrArg (fun l => _ * W m c k l) (Fin.ext (by simp [half, lane]))

theorem u_10 (r : Fin 256) (l : Fin 1408) : k0_pay15 (F := Ideal) (k0_pay3 (iblk m c 0 t))
    (View.ld (iblk m c 1 t) (Rect.unit ![2, 0, 0] ![1, 1024, 1408] inb_S4x1024x1408_S1x1024x1408_2_0_0)) (ix2 r l) = U m c (half 1 (lane 0 l)) (row t r) := by
  pointwise [k0_pay15, k0_pay3]
  simp only [rd0, rd1]
  exact Finset.sum_congr rfl fun k _ => congrArg (fun l => _ * W m c k l) (Fin.ext (by simp [half, lane]))

theorem u_01 (r : Fin 256) (l : Fin 1408) : k0_pay24 (F := Ideal) (k0_pay3 (iblk m c 0 t))
    (View.ld (iblk m c 1 t) (Rect.unit ![1, 0, 0] ![1, 1024, 1408] inb_S4x1024x1408_S1x1024x1408_1_0_0)) (ix2 r l) = U m c (half 0 (lane 1 l)) (row t r) := by
  pointwise [k0_pay24, k0_pay3]
  simp only [rd0, rd1]
  exact Finset.sum_congr rfl fun k _ => congrArg (fun l => _ * W m c k l) (Fin.ext (by simp [half, lane]))

theorem u_11 (r : Fin 256) (l : Fin 1408) : k0_pay30 (F := Ideal) (k0_pay3 (iblk m c 0 t))
    (View.ld (iblk m c 1 t) (Rect.unit ![3, 0, 0] ![1, 1024, 1408] inb_S4x1024x1408_S1x1024x1408_3_0_0)) (ix2 r l) = U m c (half 1 (lane 1 l)) (row t r) := by
  pointwise [k0_pay30, k0_pay3]
  simp only [rd0, rd1]
  refine Finset.sum_congr rfl fun k _ => congrArg (fun l => _ * W m c k l) (Fin.ext ?_)
  simp only [half, lane, Fin.val_one]
  show 3 * 1408 + l.val = _
  omega

theorem lane_0 (l : Fin 1408) (h) : (⟨l.val, h⟩ : Fin 2816) = lane 0 l := Fin.ext (by simp [lane])
theorem lane_1 (l : Fin 1408) (h) : (⟨1408 + l.val, h⟩ : Fin 2816) = lane 1 l := Fin.ext (by simp [lane])

include hC in
/-- The gates' convolution, first part of the columns. -/
theorem gate_0 (r : Fin 256) (l : Fin 1408) :
    k0_pay13 (k0_pay7 (iblk m c 0 t) (View.ld (iblk m c 1 t) (Rect.unit ![0, 0, 0] ![1, 1024, 1408] inb_S4x1024x1408_S1x1024x1408_0_0_0)) (View.ld C (Rect.unit ![0, 0, 0, 0] ![1, 1, 8, 1408] inb_S2x2x8x1408_S1x1x8x1408_0_0_0_0)))
      (k0_pay9 (View.ld (iblk m c 2 t) (Rect.unit ![0, 0, 0] ![1, 3, 2816] inb_S2x3x2816_S1x3x2816_0_0_0))) (k0_pay10 (View.ld (iblk m c 3 t) (Rect.unit ![0, 0, 0] ![1, 1, 2816] inb_S2x1x2816_S1x1x2816_0_0_0)))
      (k0_pay11 (iblk m c 0 t) (View.ld (iblk m c 1 t) (Rect.unit ![0, 0, 0] ![1, 1024, 1408] inb_S4x1024x1408_S1x1024x1408_0_0_0)) (View.ld C (Rect.unit ![0, 0, 0, 0] ![1, 1, 8, 1408] inb_S2x2x8x1408_S1x1x8x1408_0_0_0_0)) (View.ld (iblk m c 2 t) (Rect.unit ![0, 0, 0] ![1, 3, 2816] inb_S2x3x2816_S1x3x2816_0_0_0)))
      (k0_pay12 (View.ld (iblk m c 2 t) (Rect.unit ![0, 0, 0] ![1, 3, 2816] inb_S2x3x2816_S1x3x2816_0_0_0))) 1#32 (ix2 r l) = CV m c 0 (lane 0 l) (row t r) := by
  refine (conv13 (U m c (half 0 (lane 0 l))) t l _ _ _ (fun r => u_00 m c t r l) (fun s => ?_) _ _ r).trans ?_
  · pointwise
    exact hC 0 0 s l
  · pointwise
    simp only [rd2, rd3, lane_0]
    rfl

include hC in
/-- The values' convolution, first part of the columns. -/
theorem val_0 (r : Fin 256) (l : Fin 1408) :
    k0_pay21 (k0_pay18 (k0_pay3 (iblk m c 0 t)) (View.ld (iblk m c 1 t) (Rect.unit ![2, 0, 0] ![1, 1024, 1408] inb_S4x1024x1408_S1x1024x1408_2_0_0)) (View.ld C (Rect.unit ![1, 0, 0, 0] ![1, 1, 8, 1408] inb_S2x2x8x1408_S1x1x8x1408_1_0_0_0)))
      (k0_pay20 (View.ld (iblk m c 2 t) (Rect.unit ![1, 0, 0] ![1, 3, 2816] inb_S2x3x2816_S1x3x2816_1_0_0))) (View.ld (iblk m c 3 t) (Rect.unit ![1, 0, 0] ![1, 1, 2816] inb_S2x1x2816_S1x1x2816_1_0_0)) (ix2 r l) = CV m c 1 (lane 0 l) (row t r) := by
  refine (conv21 (U m c (half 1 (lane 0 l))) t l _ _ _ (fun r => u_10 m c t r l) (fun s => ?_) _ _ r).trans ?_
  · pointwise
    exact hC 1 0 s l
  · pointwise
    simp only [rd2, rd3, lane_0]
    rfl

include hC in
/-- The gates' convolution, second part of the columns. -/
theorem gate_1 (r : Fin 256) (l : Fin 1408) :
    k0_pay28 (k0_pay26 (k0_pay3 (iblk m c 0 t)) (View.ld (iblk m c 1 t) (Rect.unit ![1, 0, 0] ![1, 1024, 1408] inb_S4x1024x1408_S1x1024x1408_1_0_0))) (View.ld C (Rect.unit ![0, 1, 0, 0] ![1, 1, 8, 1408] inb_S2x2x8x1408_S1x1x8x1408_0_1_0_0))
      (View.ld (iblk m c 2 t) (Rect.unit ![0, 0, 0] ![1, 3, 2816] inb_S2x3x2816_S1x3x2816_0_0_0)) (View.ld (iblk m c 3 t) (Rect.unit ![0, 0, 0] ![1, 1, 2816] inb_S2x1x2816_S1x1x2816_0_0_0)) (ix2 r l) = CV m c 0 (lane 1 l) (row t r) := by
  refine (conv28 (U m c (half 0 (lane 1 l))) t l _ _ (fun r => u_01 m c t r l) (fun s => ?_) _ _ r).trans ?_
  · pointwise
    exact hC 0 1 s l
  · pointwise
    simp only [rd2, rd3, lane_1]
    rfl

include hC in
/-- The values' convolution, second part of the columns. -/
theorem val_1 (r : Fin 256) (l : Fin 1408) :
    k0_pay34 (k0_pay30 (k0_pay3 (iblk m c 0 t)) (View.ld (iblk m c 1 t) (Rect.unit ![3, 0, 0] ![1, 1024, 1408] inb_S4x1024x1408_S1x1024x1408_3_0_0))) (View.ld C (Rect.unit ![1, 1, 0, 0] ![1, 1, 8, 1408] inb_S2x2x8x1408_S1x1x8x1408_1_1_0_0))
      (View.ld (iblk m c 2 t) (Rect.unit ![1, 0, 0] ![1, 3, 2816] inb_S2x3x2816_S1x3x2816_1_0_0)) (View.ld (iblk m c 3 t) (Rect.unit ![1, 0, 0] ![1, 1, 2816] inb_S2x1x2816_S1x1x2816_1_0_0)) (ix2 r l) = CV m c 1 (lane 1 l) (row t r) := by
  refine (conv34 (U m c (half 1 (lane 1 l))) t l _ _ (fun r => u_11 m c t r l) (fun s => ?_) _ _ r).trans ?_
  · pointwise
    exact hC 1 1 s l
  · pointwise
    simp only [rd2, rd3, lane_1]
    rfl

end

/-- What a grid point keeps for the next one. -/
theorem carry_at (c : Dev nD) (t : Fin cfg0.N) (g j : Fin 2) (s : Fin 8) (l : Fin 1408) :
    (outsAt0 m c t.val t.isLt).2.2.2 (ix4 g j s l) = U m c (half g (lane j l)) (row t ⟨248 + s.val, by omega⟩) := by
  by_cases h : t.val % 16 = 0
  case' pos =>
    rw [outsAt0_A m c t h]; frame_out
    refine canon_covered [_] _ _ [_, _, _, _] (View.cover_of_tiled_head _ _ _ (by rfl) _) ?_
  case' neg =>
    rw [outsAt0_B m c t h]; frame_out
  all_goals
    canon_tiles x hx
    all_goals
      idx_vars x
      obtain rfl : s = x2 := Fin.ext (by omega)
      obtain rfl : l = x3 := Fin.ext (by omega)
    · obtain rfl : g = 1 := Fin.ext (by simp only [Fin.val_one]; omega)
      obtain rfl : j = 1 := Fin.ext (by simp only [Fin.val_one]; omega)
      pointwise [k0_pay33, k0_pay32]
      exact u_11 m c t _ _
    · obtain rfl : g = 0 := Fin.ext (by simp only [Fin.val_zero]; omega)
      obtain rfl : j = 1 := Fin.ext (by simp only [Fin.val_one]; omega)
      pointwise [k0_pay27, k0_pay26]
      exact u_01 m c t _ _
    · obtain rfl : g = 1 := Fin.ext (by simp only [Fin.val_one]; omega)
      obtain rfl : j = 0 := Fin.ext (by simp only [Fin.val_zero]; omega)
      pointwise [k0_pay19, k0_pay17]
      exact u_10 m c t _ _
    · obtain rfl : g = 0 := Fin.ext (by simp only [Fin.val_zero]; omega)
      obtain rfl : j = 0 := Fin.ext (by simp only [Fin.val_zero]; omega)
      pointwise [k0_pay8, k0_pay6]
      exact u_00 m c t _ _

/-- At the first grid point there are zeros before the block. -/
theorem zero_before (c : Dev nD) (t : Fin cfg0.N) (h : t.val % 16 = 0) (g j : Fin 2) (s : Fin 8) (l : Fin 1408) :
    (k0_pay2 (F := Ideal)) (ix4 g j s l) = lag (U m c (half g (lane j l))) (t.val * 256 + s.val) := by
  have := t.isLt
  have hN : cfg0.N = 16 := N_0
  unfold lag
  rw [dif_neg (by omega)]
  pointwise [k0_pay2]

/-- At a later grid point the rows kept by the point before are the eight rows before the block. -/
theorem kept_before (c : Dev nD) (t : Fin cfg0.N) (h : ¬ t.val % 16 = 0) (hl : t.val - 1 < cfg0.N) (g j : Fin 2) (s : Fin 8)
    (l : Fin 1408) :
    (outsAt0 m c (t.val - 1) hl).2.2.2 (ix4 g j s l) = lag (U m c (half g (lane j l))) (t.val * 256 + s.val) := by
  have := t.isLt
  have hN : cfg0.N = 16 := N_0
  refine (carry_at m c ⟨t.val - 1, hl⟩ g j s l).trans ?_
  unfold lag row
  rw [dif_pos (by omega)]
  exact congrArg _ (Fin.ext (by simp only; omega))

/-- The product, as a grid point leaves it. -/
theorem u_at (c : Dev nD) (t : Fin cfg0.N) (g : Fin 2) (r : Fin 256) (l : Fin 2816) :
    (outsAt0 m c t.val t.isLt).1 (ix3 g r l) = U m c (half g l) (row t r) := by
  by_cases h : t.val % 16 = 0
  case' pos => rw [outsAt0_A m c t h]; frame_out
  case' neg => rw [outsAt0_B m c t h]; frame_out
  all_goals
    canon_tiles x hx
    all_goals
      idx_vars x
      obtain rfl : r = x1 := Fin.ext (by omega)
    · obtain rfl : g = 1 := Fin.ext (by simp only [Fin.val_one]; omega)
      obtain rfl : l = lane 1 x2 := Fin.ext (by simp only [lane, Fin.val_one]; omega)
      pointwise [k0_pay31]
      exact u_11 m c t _ _
    · obtain rfl : g = 0 := Fin.ext (by simp only [Fin.val_zero]; omega)
      obtain rfl : l = lane 1 x2 := Fin.ext (by simp only [lane, Fin.val_one]; omega)
      pointwise [k0_pay25]
      exact u_01 m c t _ _
    · obtain rfl : g = 1 := Fin.ext (by simp only [Fin.val_one]; omega)
      obtain rfl : l = lane 0 x2 := Fin.ext (by simp only [lane, Fin.val_zero]; omega)
      pointwise [k0_pay16]
      exact u_10 m c t _ _
    · obtain rfl : g = 0 := Fin.ext (by simp only [Fin.val_zero]; omega)
      obtain rfl : l = lane 0 x2 := Fin.ext (by simp only [lane, Fin.val_zero]; omega)
      pointwise [k0_pay5]
      exact u_00 m c t _ _

/-- The convolution, as a grid point leaves it. -/
theorem c_at (c : Dev nD) (t : Fin cfg0.N) (g : Fin 2) (r : Fin 256) (l : Fin 2816) :
    (outsAt0 m c t.val t.isLt).2.1 (ix3 g r l) = CV m c g l (row t r) := by
  by_cases h : t.val % 16 = 0
  case' pos =>
    rw [outsAt0_A m c t h]; frame_out
    simp (disch := decide) only [↓View.readCov_skip, View.readCov_fill]
    have hC := zero_before m c t h
  case' neg =>
    rw [outsAt0_B m c t h]; frame_out
    simp only [read_unread_whole]
    have hC := kept_before m c t h (Nat.lt_of_le_of_lt (Nat.sub_le _ _) t.isLt)
  all_goals
    canon_tiles x hx
    all_goals
      idx_vars x
      obtain rfl : r = x1 := Fin.ext (by omega)
    · obtain rfl : g = 1 := Fin.ext (by simp only [Fin.val_one]; omega)
      obtain rfl : l = lane 1 x2 := Fin.ext (by simp only [lane, Fin.val_one]; omega)
      pointwise [k0_pay35]
      exact val_1 m c t _ hC _ _
    · obtain rfl : g = 0 := Fin.ext (by simp only [Fin.val_zero]; omega)
      obtain rfl : l = lane 1 x2 := Fin.ext (by simp only [lane, Fin.val_one]; omega)
      pointwise [k0_pay29]
      exact gate_1 m c t _ hC _ _
    · obtain rfl : g = 1 := Fin.ext (by simp only [Fin.val_one]; omega)
      obtain rfl : l = lane 0 x2 := Fin.ext (by simp only [lane, Fin.val_zero]; omega)
      pointwise [k0_pay22]
      exact val_0 m c t _ hC _ _
    · obtain rfl : g = 0 := Fin.ext (by simp only [Fin.val_zero]; omega)
      obtain rfl : l = lane 0 x2 := Fin.ext (by simp only [lane, Fin.val_zero]; omega)
      pointwise [k0_pay14]
      exact gate_0 m c t _ hC _ _

/-- The gated values: the gates through `silu`, times the values. -/
def gated (g v : EReal) : EReal := g * Ideal.logistic g * v

/-- The gated values, as a grid point leaves them. -/
theorem a_at (c : Dev nD) (t : Fin cfg0.N) (r : Fin 256) (l : Fin 2816) :
    (outsAt0 m c t.val t.isLt).2.2.1 (ix2 r l) = gated (CV m c 0 l (row t r)) (CV m c 1 l (row t r)) := by
  by_cases h : t.val % 16 = 0
  case' pos =>
    rw [outsAt0_A m c t h]; frame_out
    simp (disch := decide) only [↓View.readCov_skip, View.readCov_fill]
    have hC := zero_before m c t h
  case' neg =>
    rw [outsAt0_B m c t h]; frame_out
    simp only [read_unread_whole]
    have hC := kept_before m c t h (Nat.lt_of_le_of_lt (Nat.sub_le _ _) t.isLt)
  all_goals
    canon_tiles x hx
    all_goals
      idx_vars x
      obtain rfl : r = x0 := Fin.ext (by omega)
    · obtain rfl : l = lane 1 x1 := Fin.ext (by simp only [lane, Fin.val_one]; omega)
      pointwise [k0_pay1, k0_pay36]
      exact congrArg₂ gated (gate_1 m c t _ hC _ _) (val_1 m c t _ hC _ _)
    · obtain rfl : l = lane 0 x1 := Fin.ext (by simp only [lane, Fin.val_zero]; omega)
      pointwise [k0_pay23]
      exact congrArg₂ gated (gate_0 m c t _ hC _ _) (val_0 m c t _ hC _ _)

/-- The product. -/
theorem final_u (c : Dev nD) : (dats m 0 c).arrAt 4 cfg0.N = fun y : S2x4096x2816.Idx => U m c (half (y 0) (y 2)) (y 1) := by
  refine (dats m 0 c).arrAt_eq_of_covers 4 _ (by decide +kernel) fun t hf y => ?_
  blk_simp
  rw [after0_4]
  change S2x256x2816.Idx at y
  idx_vars y
  have hr : (win0_4.blk t).view.emb (ix3 y0 y1 y2) = ix3 y0 (row t y1) y2 := by
    unfold row
    blk_ext [idx t]
  rw [hr]
  exact u_at m c t y0 y1 y2

/-- The convolution. -/
theorem final_c (c : Dev nD) : (dats m 0 c).arrAt 5 cfg0.N = fun y : S2x4096x2816.Idx => CV m c (y 0) (y 2) (y 1) := by
  refine (dats m 0 c).arrAt_eq_of_covers 5 _ (by decide +kernel) fun t hf y => ?_
  blk_simp
  rw [after0_5]
  change S2x256x2816.Idx at y
  idx_vars y
  have hr : (win0_5.blk t).view.emb (ix3 y0 y1 y2) = ix3 y0 (row t y1) y2 := by
    unfold row
    blk_ext [idx t]
  rw [hr]
  exact c_at m c t y0 y1 y2

/-- The gated values. -/
theorem final_a (c : Dev nD) : (dats m 0 c).arrAt 6 cfg0.N = fun y : S4096x2816.Idx => gated (CV m c 0 (y 1) (y 0)) (CV m c 1 (y 1) (y 0)) := by
  refine (dats m 0 c).arrAt_eq_of_covers 6 _ (by decide +kernel) fun t hf y => ?_
  blk_simp
  rw [after0_6]
  change S256x2816.Idx at y
  idx_vars y
  have hr : (win0_6.blk t).view.emb (ix2 y0 y1) = ix2 (row t y0) y1 := by
    unfold row
    blk_ext [idx t]
  rw [hr]
  exact a_at m c t y0 y1

end Cert.Forward.Up

end
-- ==== Proof.Forward.UpClaim.lean ====
/- The claim about a channel mixer's up projection, its causal convolution and its gate. -/
module

public import proofs.«01_k».proof.Defs
public import proofs.«01_k».proof.Proof.Gen.Reference9Ideal.Run
public import proofs.«01_k».proof.Proof.Forward.Up

@[expose] public section

set_option maxRecDepth 16384

noncomputable section

open Idealize.ShloMosaic Idealize.ShloMosaic.TcCoe Idealize.SL.Sem

namespace Cert.Forward.Up
open Cert.Conv (conv back)

section
open Cert.Reference9Ideal Cert.Reference9Ideal.Gen

/-- The reference's product. -/
def prodV (a : FVec Ideal S4096x1024 .f32) (w : FVec Ideal S1024x5632 .f32) : FVec Ideal S4096x5632 .f32 :=
  Host.dotGeneral dot_S4096x1024_S1024x5632_S4096x5632_1_0_0_1_n_n none a w

theorem prodV_at (a : FVec Ideal S4096x1024 .f32) (w : FVec Ideal S1024x5632 .f32) (i : Fin 4096) (j : Fin 5632) :
    prodV a w (ix2 i j) = prow (fun k => a (ix2 i k)) (fun k j => w (ix2 k j)) j := by
  pointwise [prodV]
  rfl

/-- A row of one number per column, once per row. -/
def perRowV (b : FVec Ideal S5632 .f32) : FVec Ideal S4096x5632 .f32 :=
  broadcastInDim S4096x5632 ![0, 1] bcast_S1x5632_S4096x5632_0_1 (broadcastInDim S1x5632 ![1] bcast_S5632_S1x5632_1 b)

/-- The reference's convolution. -/
def causalV (u : FVec Ideal S4096x5632 .f32) (cw : FVec Ideal S3x5632 .f32) (cb : FVec Ideal S5632 .f32) :
    FVec Ideal S4096x5632 .f32 :=
  addf (addf (addf
    (mulf (perRowV (shapeCast _ (extractStridedSlice S1x5632 ![2, 0] cw slices_S3x5632_S1x5632_2_0) shapeCasts_S1x5632_S5632)) u)
    (mulf (perRowV (shapeCast _ (extractStridedSlice S1x5632 ![1, 0] cw slices_S3x5632_S1x5632_1_0) shapeCasts_S1x5632_S5632))
      (concatenate S4096x5632 0 [⟨S1x5632, (broadcastInDim S1x5632 ![] bcast_S_S1x5632 (constant S_ .f32 0x00000000#32))⟩,
        ⟨S4095x5632, (extractStridedSlice S4095x5632 ![0, 0] u slices_S4096x5632_S4095x5632_0_0)⟩]
        concatenates_S1x5632_S4095x5632_S4096x5632_d0)))
    (mulf (perRowV (shapeCast _ (extractStridedSlice S1x5632 ![0, 0] cw slices_S3x5632_S1x5632_0_0) shapeCasts_S1x5632_S5632))
      (concatenate S4096x5632 0 [⟨S2x5632, (broadcastInDim S2x5632 ![] bcast_S_S2x5632 (constant S_ .f32 0x00000000#32))⟩,
        ⟨S4094x5632, (extractStridedSlice S4094x5632 ![0, 0] u slices_S4096x5632_S4094x5632_0_0)⟩]
        concatenates_S2x5632_S4094x5632_S4096x5632_d0)))
    (perRowV cb)

theorem causalV_at (u : FVec Ideal S4096x5632 .f32) (cw : FVec Ideal S3x5632 .f32) (cb : FVec Ideal S5632 .f32)
    (n : Fin 4096) (l : Fin 5632) : causalV u cw cb (ix2 n l)
      = conv (fun k => cw (ix2 k l)) (cb (ix1 l)) (fun n => u (ix2 n l)) n := by
  unfold conv back
  pointwise [causalV, perRowV]
  rfl

/-- The two halves of the columns, one after the other. -/
def halvesV (u : FVec Ideal S4096x5632 .f32) : FVec Ideal S2x4096x2816 .bf16 :=
  truncf .bf16 (transpose S2x4096x2816 [1, 0, 2] (shapeCast _ u shapeCasts_S4096x5632_S4096x2x2816)
    transposes_S4096x2x2816_S2x4096x2816_1_0_2) bitsLt_bf16_f32

theorem halvesV_at (u : FVec Ideal S4096x5632 .f32) (g : Fin 2) (n : Fin 4096) (l : Fin 2816) :
    halvesV u (ix3 g n l) = u (ix2 n (half g l)) := by
  pointwise [halvesV]
  rfl

/-- The reference's gated values. -/
def gatedV (v : FVec Ideal S4096x5632 .f32) : FVec Ideal S4096x2816 .bf16 :=
  truncf .bf16 (mulf (mulf (extractStridedSlice S4096x2816 ![0, 0] v slices_S4096x5632_S4096x2816_0_0)
    (Host.divf (broadcastInDim S4096x2816 ![] bcast_S_S4096x2816 (constant S_ .f32 0x3F800000#32))
      (addf (broadcastInDim S4096x2816 ![] bcast_S_S4096x2816 (constant S_ .f32 0x3F800000#32))
        (Host.exp (Host.negf (extractStridedSlice S4096x2816 ![0, 0] v slices_S4096x5632_S4096x2816_0_0))))))
    (extractStridedSlice S4096x2816 ![0, 2816] v slices_S4096x5632_S4096x2816_0_2816)) bitsLt_bf16_f32

theorem gatedV_at (v : FVec Ideal S4096x5632 .f32) (n : Fin 4096) (l : Fin 2816) :
    gatedV v (ix2 n l) = gated (v (ix2 n (half 0 l))) (v (ix2 n (half 1 l))) := by
  have h0 : half 0 l = ⟨l.val, by omega⟩ := Fin.ext (by simp [half])
  have h1 : half 1 l = ⟨2816 + l.val, by omega⟩ := Fin.ext (by simp [half])
  rw [h0, h1]
  pointwise [gatedV]
  rfl

/-- The convolution of the product, one entry. -/
theorem mixed_at (a : FVec Ideal S4096x1024 .f32) (w : FVec Ideal S1024x5632 .f32) (cw : FVec Ideal S3x5632 .f32)
    (cb : FVec Ideal S5632 .f32) (n : Fin 4096) (l : Fin 5632) : causalV (prodV a w) cw cb (ix2 n l)
      = conv (fun k => cw (ix2 k l)) (cb (ix1 l)) (fun n => prow (fun k => a (ix2 n k)) (fun k j => w (ix2 k j)) l) n := by
  rw [causalV_at]
  simp only [prodV_at]

theorem res2_eq (m : (ℓ : Loc nD τ sig) → Buf (Elt Ideal) ℓ) (c : Dev nD) (a : FVec Ideal S4096x1024 .f32)
    (w : FVec Ideal S1024x5632 .f32) (cw : FVec Ideal S3x5632 .f32) (cb : FVec Ideal S5632 .f32)
    (h0 : m (c.tc.loc main_arg0) = a) (h1 : m (c.tc.loc main_arg1) = w) (h2 : m (c.tc.loc main_arg2) = cw)
    (h3 : m (c.tc.loc main_arg3) = cb) :
    (Value.res_out2 m c : FVec Ideal S4096x2816 .bf16) = gatedV (causalV (prodV a w) cw cb) := by
  subst h0 h1 h2 h3
  rfl

end

/-- Whenever kernel and reference both run, their results agree. -/
theorem algebraic : Cert.algebraic_Kernel9Ideal_Reference9Ideal := by
  pair_intro
  · run_from Cert.Kernel9Ideal.Gen.run_main m g
  · run_from Cert.Reference9Ideal.Value.run m' g'
    · rw [final_u m c]
      funext y
      idx_vars y
      exact (halvesV_at _ y0 y1 y2).trans (prodV_at _ _ y1 _)
    · rw [final_c m c]
      funext y
      idx_vars y
      exact (halvesV_at _ y0 y1 y2).trans (mixed_at _ _ _ _ y1 _)
    · obtain ⟨h0, h1, h2, h3⟩ := hagree c
      rw [final_a m c]
      funext y
      idx_vars y
      exact (congrFun (res2_eq m' c _ _ _ _ h0 h1 h2 h3) (ix2 y0 y1)).trans ((gatedV_at _ y0 y1).trans
        (congrArg₂ gated (mixed_at _ _ _ _ y0 _) (mixed_at _ _ _ _ y0 _)))

end Cert.Forward.Up

end
-- ==== Proof.Adam.Base.lean ====
/- The optimiser's step, entry by entry: the two new moments and the update, over arrays of any shape. -/
module

public import Idealize.ShloMosaic.Lib.Pipeline.ValueKit
public import Idealize.ShloMosaic.Lib.Claim

@[expose] public section

noncomputable section

open Idealize.ShloMosaic

namespace Cert.Adam

/-- A constant of the step. -/
def k (w : BitVec 32) : EReal := Scalar.ofBits (F := Ideal) .f32 w

/-- The new first moment. -/
def mean (g m : EReal) : EReal := k 0x3F666666#32 * m + k 0x3DCCCCCD#32 * g

/-- The new second moment. -/
def square (g v : EReal) : EReal := k 0x3F7FBE77#32 * v + k 0x3A83126F#32 * (g * g)

/-- The update, from the weight and the new moments. -/
def update (w m v : EReal) : EReal :=
  k 0xBA83126F#32 * (Ideal.div (m * k 0x3FC48605#32) (Ideal.sqrt (v * k 0x42C8E6D3#32) + k 0x322BCC77#32) + k 0x3C23D70A#32 * w)

theorem update_congr {w w' m m' v v' : EReal} (hw : w = w') (hm : m = m') (hv : v = v') : update w m v = update w' m' v' := by
  rw [hw, hm, hv]

section
variable {S : Shape}

/-- The new first moments. -/
def meanV (g m : FVec Ideal S .f32) : FVec Ideal S .f32 := fun y => mean (g y) (m y)
/-- The new second moments. -/
def squareV (g v : FVec Ideal S .f32) : FVec Ideal S .f32 := fun y => square (g y) (v y)
/-- The updates. -/
def updateV (w m v : FVec Ideal S .f32) : FVec Ideal S .f32 := fun y => update (w y) (m y) (v y)

/-- A shape without axes. -/
abbrev S0 : Shape := ⟨0, ![]⟩

/-- A constant in every entry, as the references write it. -/
def all (h : S0.BroadcastsInDim S (![] : Fin 0 → Fin S.rank)) (w : BitVec 32) : FVec Ideal S .f32 :=
  broadcastInDim S ![] h (constant S0 .f32 w)

theorem mean_host (h : S0.BroadcastsInDim S (![] : Fin 0 → Fin S.rank)) (g m : FVec Ideal S .f32) :
    addf (mulf (all h 0x3F666666#32) m) (mulf (all h 0x3DCCCCCD#32) g) = meanV g m := rfl

theorem square_host (h : S0.BroadcastsInDim S (![] : Fin 0 → Fin S.rank)) (g v : FVec Ideal S .f32) :
    addf (mulf (all h 0x3F7FBE77#32) v) (mulf (all h 0x3A83126F#32) (mulf g g)) = squareV g v := rfl

theorem update_host (h : S0.BroadcastsInDim S (![] : Fin 0 → Fin S.rank)) (w g m v : FVec Ideal S .f32) :
    mulf (all h 0xBA83126F#32) (addf (Host.divf
      (mulf (addf (mulf (all h 0x3F666666#32) m) (mulf (all h 0x3DCCCCCD#32) g)) (all h 0x3FC48605#32))
      (addf (Host.sqrt (mulf (addf (mulf (all h 0x3F7FBE77#32) v) (mulf (all h 0x3A83126F#32) (mulf g g)))
        (all h 0x42C8E6D3#32))) (all h 0x322BCC77#32))) (mulf (all h 0x3C23D70A#32) w))
      = updateV w (meanV g m) (squareV g v) := rfl

end

end Cert.Adam

end
-- ==== Proof.Adam.Tensors.lean ====
/- The optimiser's step of the tensors that one gradient belongs to. Each result is read off the two runs; that they are
   the same step is the lemmas over any shape. -/
module

public import proofs.«01_k».proof.Defs
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Kernel21Ideal.Value
public import proofs.«01_k».proof.Proof.Gen.Kernel24Ideal.Value
public import proofs.«01_k».proof.Proof.Gen.Kernel25Ideal.Value
public import proofs.«01_k».proof.Proof.Gen.Kernel26Ideal.Value
public import proofs.«01_k».proof.Proof.Gen.Kernel27Ideal.Value
public import proofs.«01_k».proof.Proof.Gen.Kernel28Ideal.Value
public import proofs.«01_k».proof.Proof.Gen.Kernel29Ideal.Value
public import proofs.«01_k».proof.Proof.Gen.Kernel30Ideal.Value
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Adam.Base

@[expose] public section

set_option maxRecDepth 16384

noncomputable section

open Idealize.ShloMosaic Idealize.ShloMosaic.TcCoe Idealize.SL.Sem

namespace Cert.Adam

/-- The first layer's input projection. -/
theorem input : Cert.algebraic_Kernel17Ideal_Reference17Ideal := by
  pair_intro
  · run_from Cert.Kernel17Ideal.Value.run m g
  · run_from Cert.Reference17Ideal.Value.run m' g'
    exacts [update_host _ _ _ _ _, mean_host _ _ _, square_host _ _ _]

/-- An output projection, of either layer. -/
theorem output : Cert.algebraic_Kernel18Ideal_Reference18Ideal := by
  pair_intro
  · run_from Cert.Kernel18Ideal.Value.run m g
  · run_from Cert.Reference18Ideal.Value.run m' g'
    exacts [update_host _ _ _ _ _, mean_host _ _ _, square_host _ _ _]

/-- The query projection, and the keys' modulation, which has its shape. -/
theorem query : Cert.algebraic_Kernel19Ideal_Reference19Ideal := by
  pair_intro
  · run_from Cert.Kernel19Ideal.Value.run m g
  · run_from Cert.Reference19Ideal.Value.run m' g'
    exacts [update_host _ _ _ _ _, mean_host _ _ _, square_host _ _ _]

/-- The projection to keys and values. -/
theorem keys : Cert.algebraic_Kernel20Ideal_Reference20Ideal := by
  pair_intro
  · run_from Cert.Kernel20Ideal.Value.run m g
  · run_from Cert.Reference20Ideal.Value.run m' g'
    exacts [update_host _ _ _ _ _, mean_host _ _ _, square_host _ _ _]

/-- The layers' modulation. -/
theorem modulation : Cert.algebraic_Kernel21Ideal_Reference21Ideal := by
  pair_intro
  · run_from Cert.Kernel21Ideal.Value.run m g
  · run_from Cert.Reference21Ideal.Value.run m' g'
    exacts [update_host _ _ _ _ _, mean_host _ _ _, square_host _ _ _]

/-- The bias of the layers' modulation. -/
theorem modulation_bias : Cert.algebraic_Kernel24Ideal_Reference24Ideal := by
  pair_intro
  · run_from Cert.Kernel24Ideal.Value.run m g
  · run_from Cert.Reference24Ideal.Value.run m' g'
    exacts [update_host _ _ _ _ _, mean_host _ _ _, square_host _ _ _]

/-- The bias of the keys' modulation. -/
theorem keys_bias : Cert.algebraic_Kernel25Ideal_Reference25Ideal := by
  pair_intro
  · run_from Cert.Kernel25Ideal.Value.run m g
  · run_from Cert.Reference25Ideal.Value.run m' g'
    exacts [update_host _ _ _ _ _, mean_host _ _ _, square_host _ _ _]

/-- The lower bounds' logits. -/
theorem lower_bounds : Cert.algebraic_Kernel26Ideal_Reference26Ideal := by
  pair_intro
  · run_from Cert.Kernel26Ideal.Value.run m g
  · run_from Cert.Reference26Ideal.Value.run m' g'
    exacts [update_host _ _ _ _ _, mean_host _ _ _, square_host _ _ _]

/-- The gain of a norm: the first layer's, the keys' or the queries'. -/
theorem gain : Cert.algebraic_Kernel27Ideal_Reference27Ideal := by
  pair_intro
  · run_from Cert.Kernel27Ideal.Value.run m g
  · run_from Cert.Reference27Ideal.Value.run m' g'
    exacts [update_host _ _ _ _ _, mean_host _ _ _, square_host _ _ _]

/-- The forget gates' bias. -/
theorem forget_bias : Cert.algebraic_Kernel28Ideal_Reference28Ideal := by
  pair_intro
  · run_from Cert.Kernel28Ideal.Value.run m g
  · run_from Cert.Reference28Ideal.Value.run m' g'
    exacts [update_host _ _ _ _ _, mean_host _ _ _, square_host _ _ _]

/-- The taps of the convolution. -/
theorem taps : Cert.algebraic_Kernel29Ideal_Reference29Ideal := by
  pair_intro
  · run_from Cert.Kernel29Ideal.Value.run m g
  · run_from Cert.Reference29Ideal.Value.run m' g'
    exacts [update_host _ _ _ _ _, mean_host _ _ _, square_host _ _ _]

/-- The bias of the convolution. -/
theorem conv_bias : Cert.algebraic_Kernel30Ideal_Reference30Ideal := by
  pair_intro
  · run_from Cert.Kernel30Ideal.Value.run m g
  · run_from Cert.Reference30Ideal.Value.run m' g'
    exacts [update_host _ _ _ _ _, mean_host _ _ _, square_host _ _ _]

end Cert.Adam

end
-- ==== Proof.Quiet.lean ====
/- A program without semaphores: from what its run leaves to the frame claim. -/
module

public import Idealize.ShloMosaic.Adequacy
public import Idealize.ShloMosaic.Lib.Quiescent

@[expose] public section

namespace Cert

open Idealize.ShloMosaic Idealize.SL.Sem

/-- If every run ends with `P` on each device, and `P` keeps the arguments, then the run keeps them and leaves every
    semaphore at zero: there is none. -/
theorem quiet {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val}
    {P K : PUnit × MemSt nD τ sig Val → Dev nD → Prop} (hs : sig.nSem + sig.nDmaSem = 0) (hk : ∀ r c, P r c → K r c)
    (h : θ_run defs p s fun r => ∀ c, P r c) : θ_run defs p s fun r => (∀ c, K r c) ∧ r.2.sem = fun _ => 0 :=
  (θ_run defs p s).mono (fun r hr => ⟨fun c => hk r c (hr c), sem_eq_zero_of_no_sems hs r.2⟩) h

end Cert

end
-- ==== Proof.Adam.Stacked.lean ====
/- The optimiser's step of both layers' matrices at once: a grid point takes the first layer's gradient in the first half
   of the grid, the second's in the second half. Over matrices and tiles of any size. -/
module

public import proofs.«01_k».proof.Proof.Adam.Base

@[expose] public section

noncomputable section

open Idealize.ShloMosaic

namespace Cert.Adam

/-- The shape of a matrix. -/
abbrev Mat (a b : Nat) : Shape := ⟨2, ![a, b]⟩

variable {H R C : Nat}

theorem second_lt (hR : R = H + H) {n : Nat} (h : n < R) (k : ¬ n < H) : n - H < H := by omega

/-- The layers' rows, one after the other. -/
def joined (hR : R = H + H) (g0 g1 : FVec Ideal (Mat H C) .f32) : FVec Ideal (Mat R C) .f32 := fun y =>
  if k : (y 0).val < H then g0 (ix2 ⟨(y 0).val, k⟩ (y 1)) else g1 (ix2 ⟨(y 0).val - H, second_lt hR (y 0).isLt k⟩ (y 1))

/-- The entry of a selected tile, at row `q` of the whole: the joined rows' entry, if the choice is by the layer that `q`
    belongs to and each layer's tile holds that layer's row. -/
theorem select_joined {tr : Nat} (hR : R = H + H) (g0 g1 : FVec Ideal (Mat H C) .f32) (b0 b1 : (Mat tr C).Idx → EReal) (s : BitVec 1)
    (r : Fin tr) (q : Fin R) (j : Fin C) (hs : s = if H ≤ q.val then 1#1 else 0#1)
    (h0 : ∀ k : q.val < H, b0 (ix2 r j) = g0 (ix2 ⟨q.val, k⟩ j))
    (h1 : ∀ k : ¬ q.val < H, b1 (ix2 r j) = g1 (ix2 ⟨q.val - H, second_lt hR q.isLt k⟩ j)) :
    Scalar.select s b1 b0 (ix2 r j) = joined hR g0 g1 (ix2 q j) := by
  show _ = if k : q.val < H then g0 (ix2 ⟨q.val, k⟩ j) else g1 (ix2 ⟨q.val - H, second_lt hR q.isLt k⟩ j)
  unfold Scalar.select
  by_cases k : q.val < H
  · have e : s = 0#1 := hs.trans (if_neg (Nat.not_le.mpr k))
    rw [dif_pos k, e, if_neg (by decide)]
    exact h0 k
  · have e : s = 1#1 := hs.trans (if_pos (Nat.not_lt.mp k))
    rw [dif_neg k, e, if_pos (by decide)]
    exact h1 k

/-- From the entries that a tile reads to the three that it writes, at the place `p` of the whole. -/
theorem step {S : Shape} {W G M Q : FVec Ideal S .f32} {p : S.Idx} {w g v q pm pq pu : EReal} (hw : w = W p) (hg : g = G p)
    (hv : v = M p) (hq : q = Q p) (hm : pm = mean g v) (hs : pq = square g q) (hu : pu = update w pm pq) :
    pu = updateV W (meanV G M) (squareV G Q) p ∧ pm = meanV G M p ∧ pq = squareV G Q p := by
  have em : pm = meanV G M p := hm.trans (congrArg₂ mean hg hv)
  have es : pq = squareV G Q p := hs.trans (congrArg₂ square hg hq)
  exact ⟨hu.trans (update_congr hw em es), em, es⟩

end Cert.Adam

end
-- ==== Proof.Adam.Up.lean ====
/- The optimiser's step of both layers' up projections (program `Kernel22Ideal`). -/
module

public import proofs.«01_k».proof.Defs
public import proofs.«01_k».proof.Proof.Gen.Kernel22Ideal.Value
public import proofs.«01_k».proof.Proof.Gen.Reference22Ideal.Run
public import Idealize.ShloMosaic.Lib.Pipeline.ReadBack
public import proofs.«01_k».proof.Proof.Adam.Stacked

@[expose] public section

set_option maxRecDepth 16384

noncomputable section

open Idealize.ShloMosaic Idealize.ShloMosaic.TcCoe Idealize.SL.Sem

namespace Cert.Adam.Up
section
open Cert.Kernel22Ideal Cert.Kernel22Ideal.Gen

variable (m : (ℓ : Loc nD τ sig) → Buf (Elt Ideal) ℓ) (c : Dev nD)

/-- Which block each window reads or writes at a grid point. -/
theorem idx : ∀ t : Fin cfg0.N, win0_0.index t = ![t.val, 0] ∧ win0_1.index t = ![t.val, 0] ∧ win0_2.index t = ![t.val, 0]
    ∧ win0_3.index t = ![min t.val 3, 0] ∧ win0_4.index t = ![t.val - 4, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The second layer's grid points are the last four. -/
theorem second : ∀ t : Fin cfg0.N, Scalar.cmpi .sge (BitVec.ofNat 32 ((grid0.coords t) 0).val) 4#32 = if 4 ≤ t.val then 1#1 else 0#1 :=
  (by decide +kernel : ∀ t : Fin grid0.N, _)

/-- The weights. -/
def W : FVec Ideal S2048x1408 .f32 := m (c.tc.loc main_arg0)
/-- The first layer's gradient. -/
def G0 : FVec Ideal S1024x1408 .f32 := m (c.tc.loc main_arg1)
/-- The second layer's gradient. -/
def G1 : FVec Ideal S1024x1408 .f32 := m (c.tc.loc main_arg2)
/-- The first moments. -/
def M : FVec Ideal S2048x1408 .f32 := m (c.tc.loc main_arg3)
/-- The second moments. -/
def Q : FVec Ideal S2048x1408 .f32 := m (c.tc.loc main_arg4)
/-- Both layers' gradients. -/
def G : FVec Ideal S2048x1408 .f32 := joined rfl (G0 m c) (G1 m c)

theorem row_lt (t : Fin cfg0.N) (r : Fin 256) : t.val * 256 + r.val < 2048 := by
  have := t.isLt; have h : cfg0.N = 8 := N_0; omega
/-- Row `r` of the block of grid point `t`. -/
def row (t : Fin cfg0.N) (r : Fin 256) : Fin 2048 := ⟨t.val * 256 + r.val, row_lt t r⟩

/-- A block's rows of the weights and moments. -/
theorem rd (t : Fin cfg0.N) (r : Fin 256) (j : Fin 1408) : iblk m c 0 t (ix2 r j) = W m c (ix2 (row t r) j)
    ∧ iblk m c 1 t (ix2 r j) = M m c (ix2 (row t r) j) ∧ iblk m c 2 t (ix2 r j) = Q m c (ix2 (row t r) j) := by
  unfold W M Q row
  refine ⟨?_, ?_, ?_⟩ <;> blk_point [iblk, V, idx t]

/-- The gradient that a grid point selects. -/
theorem rd_grad (t : Fin cfg0.N) (r : Fin 256) (j : Fin 1408) :
    k0_pay2 (grid0.coords t) (iblk m c 3 t) (iblk m c 4 t) (ix2 r j) = G m c (ix2 (row t r) j) := by
  have hr := row_lt t r
  refine select_joined (by rfl) (G0 m c) (G1 m c) (iblk m c 3 t) (iblk m c 4 t) _ r (row t r) j
    ((second t).trans (if_congr ?_ rfl rfl)) (fun k => ?_) (fun k => ?_)
  · show 4 ≤ t.val ↔ 1024 ≤ t.val * 256 + r.val
    omega
  · change t.val * 256 + r.val < 1024 at k
    unfold G0 row
    blk_point [iblk, V, idx t]
  · change ¬ t.val * 256 + r.val < 1024 at k
    unfold G1 row
    blk_point [iblk, V, idx t]

/-- The tiles' rows in the result arrays. -/
theorem emb (t : Fin cfg0.N) (r : Fin 256) (j : Fin 1408) : (win0_5.blk t).view.emb (ix2 r j) = ix2 (row t r) j
    ∧ (win0_6.blk t).view.emb (ix2 r j) = ix2 (row t r) j ∧ (win0_7.blk t).view.emb (ix2 r j) = ix2 (row t r) j
    ∧ (win0_8.blk t).view.emb (ix2 r j) = ix2 (row t r) j := by
  unfold row
  refine ⟨?_, ?_, ?_, ?_⟩ <;> blk_ext [idx t]

/-- What a grid point writes: the step at its rows. -/
theorem written (t : Fin cfg0.N) (r : Fin 256) (j : Fin 1408) :
    k0_pay1 (k0_pay5 (grid0.coords t) (iblk m c 3 t) (iblk m c 4 t) (iblk m c 1 t) (iblk m c 2 t)) (k0_pay6 (iblk m c 0 t)) (ix2 r j)
        = updateV (W m c) (meanV (G m c) (M m c)) (squareV (G m c) (Q m c)) (ix2 (row t r) j)
    ∧ k0_pay3 (grid0.coords t) (iblk m c 3 t) (iblk m c 4 t) (iblk m c 1 t) (ix2 r j) = meanV (G m c) (M m c) (ix2 (row t r) j)
    ∧ k0_pay4 (grid0.coords t) (iblk m c 3 t) (iblk m c 4 t) (iblk m c 2 t) (ix2 r j) = squareV (G m c) (Q m c) (ix2 (row t r) j) :=
  step (rd m c t r j).1 (rd_grad m c t r j) (rd m c t r j).2.1 (rd m c t r j).2.2 rfl rfl rfl

/-- The updates. -/
theorem update_eq : (dats m 0 c).arrAt 5 cfg0.N = updateV (W m c) (meanV (G m c) (M m c)) (squareV (G m c) (Q m c)) := by
  refine (dats m 0 c).arrAt_eq_of_covers 5 _ (by decide +kernel) fun t hf y => ?_
  blk_simp
  rw [after0_5]
  change S256x1408.Idx at y
  idx_vars y
  rw [(emb t y0 y1).1]
  frame_out
  exact (written m c t y0 y1).1

/-- The new first moments. -/
theorem mean_eq : (dats m 0 c).arrAt 6 cfg0.N = meanV (G m c) (M m c) := by
  refine (dats m 0 c).arrAt_eq_of_covers 6 _ (by decide +kernel) fun t hf y => ?_
  blk_simp
  rw [after0_6]
  change S256x1408.Idx at y
  idx_vars y
  rw [(emb t y0 y1).2.1]
  frame_out
  exact (written m c t y0 y1).2.1

/-- The new second moments. -/
theorem square_eq : (dats m 0 c).arrAt 7 cfg0.N = squareV (G m c) (Q m c) := by
  refine (dats m 0 c).arrAt_eq_of_covers 7 _ (by decide +kernel) fun t hf y => ?_
  blk_simp
  rw [after0_7]
  change S256x1408.Idx at y
  idx_vars y
  rw [(emb t y0 y1).2.2.1]
  frame_out
  exact (written m c t y0 y1).2.2

/-- The gradients. -/
theorem grad_eq : (dats m 0 c).arrAt 8 cfg0.N = G m c := by
  refine (dats m 0 c).arrAt_eq_of_covers 8 _ (by decide +kernel) fun t hf y => ?_
  blk_simp
  rw [after0_8]
  change S256x1408.Idx at y
  idx_vars y
  rw [(emb t y0 y1).2.2.2]
  frame_out
  exact rd_grad m c t y0 y1

/-- The reference's concatenation. -/
theorem concatenate_eq (g0 g1 : FVec Ideal S1024x1408 .f32) : concatenate S2048x1408 0 [⟨S1024x1408, g0⟩, ⟨S1024x1408, g1⟩]
    Cert.Reference22Ideal.Gen.concatenates_S1024x1408_S1024x1408_S2048x1408_d0 = joined rfl g0 g1 := by
  funext y
  idx_vars y
  pointwise [joined]

/-- Equal gradients, joined, are equal. -/
theorem joined_agree {g0 g1 : FVec Ideal S1024x1408 .f32} (h0 : g0 = m (c.tc.loc main_arg1)) (h1 : g1 = m (c.tc.loc main_arg2)) :
    joined rfl g0 g1 = G m c := congrArg₂ (joined rfl) h0 h1

end

/-- Whenever kernel and reference both run, their results agree. -/
theorem algebraic : Cert.algebraic_Kernel22Ideal_Reference22Ideal := by
  pair_intro
  · run_from Cert.Kernel22Ideal.Value.run_blocks m g
  · run_from Cert.Reference22Ideal.Value.run m' g'
    all_goals rw [concatenate_eq, joined_agree m c (hagree c).2.1 (hagree c).2.2.1]
    · exact (update_host _ _ _ _ _).trans (update_eq m c).symm
    · exact (mean_host _ _ _).trans (mean_eq m c).symm
    · exact (square_host _ _ _).trans (square_eq m c).symm
    · exact (grad_eq m c).symm

end Cert.Adam.Up

end
-- ==== Proof.Adam.Down.lean ====
/- The optimiser's step of both layers' down projections (program `Kernel23Ideal`). -/
module

public import proofs.«01_k».proof.Defs
public import proofs.«01_k».proof.Proof.Gen.Kernel23Ideal.Value
public import proofs.«01_k».proof.Proof.Gen.Reference23Ideal.Run
public import Idealize.ShloMosaic.Lib.Pipeline.ReadBack
public import proofs.«01_k».proof.Proof.Adam.Stacked

@[expose] public section

set_option maxRecDepth 16384

noncomputable section

open Idealize.ShloMosaic Idealize.ShloMosaic.TcCoe Idealize.SL.Sem

namespace Cert.Adam.Down
section
open Cert.Kernel23Ideal Cert.Kernel23Ideal.Gen

variable (m : (ℓ : Loc nD τ sig) → Buf (Elt Ideal) ℓ) (c : Dev nD)

/-- Which block each window reads or writes at a grid point. -/
theorem idx : ∀ t : Fin cfg0.N, win0_0.index t = ![t.val, 0] ∧ win0_1.index t = ![t.val, 0] ∧ win0_2.index t = ![t.val, 0]
    ∧ win0_3.index t = ![min t.val 3, 0] ∧ win0_4.index t = ![t.val - 4, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The second layer's grid points are the last four. -/
theorem second : ∀ t : Fin cfg0.N, Scalar.cmpi .sge (BitVec.ofNat 32 ((grid0.coords t) 0).val) 4#32 = if 4 ≤ t.val then 1#1 else 0#1 :=
  (by decide +kernel : ∀ t : Fin grid0.N, _)

/-- The weights. -/
def W : FVec Ideal S1408x1024 .f32 := m (c.tc.loc main_arg0)
/-- The first layer's gradient. -/
def G0 : FVec Ideal S704x1024 .f32 := m (c.tc.loc main_arg1)
/-- The second layer's gradient. -/
def G1 : FVec Ideal S704x1024 .f32 := m (c.tc.loc main_arg2)
/-- The first moments. -/
def M : FVec Ideal S1408x1024 .f32 := m (c.tc.loc main_arg3)
/-- The second moments. -/
def Q : FVec Ideal S1408x1024 .f32 := m (c.tc.loc main_arg4)
/-- Both layers' gradients. -/
def G : FVec Ideal S1408x1024 .f32 := joined rfl (G0 m c) (G1 m c)

theorem row_lt (t : Fin cfg0.N) (r : Fin 176) : t.val * 176 + r.val < 1408 := by
  have := t.isLt; have h : cfg0.N = 8 := N_0; omega
/-- Row `r` of the block of grid point `t`. -/
def row (t : Fin cfg0.N) (r : Fin 176) : Fin 1408 := ⟨t.val * 176 + r.val, row_lt t r⟩

/-- A block's rows of the weights and moments. -/
theorem rd (t : Fin cfg0.N) (r : Fin 176) (j : Fin 1024) : iblk m c 0 t (ix2 r j) = W m c (ix2 (row t r) j)
    ∧ iblk m c 1 t (ix2 r j) = M m c (ix2 (row t r) j) ∧ iblk m c 2 t (ix2 r j) = Q m c (ix2 (row t r) j) := by
  unfold W M Q row
  refine ⟨?_, ?_, ?_⟩ <;> blk_point [iblk, V, idx t]

/-- The gradient that a grid point selects. -/
theorem rd_grad (t : Fin cfg0.N) (r : Fin 176) (j : Fin 1024) :
    k0_pay2 (grid0.coords t) (iblk m c 3 t) (iblk m c 4 t) (ix2 r j) = G m c (ix2 (row t r) j) := by
  have hr := row_lt t r
  refine select_joined (by rfl) (G0 m c) (G1 m c) (iblk m c 3 t) (iblk m c 4 t) _ r (row t r) j
    ((second t).trans (if_congr ?_ rfl rfl)) (fun k => ?_) (fun k => ?_)
  · show 4 ≤ t.val ↔ 704 ≤ t.val * 176 + r.val
    omega
  · change t.val * 176 + r.val < 704 at k
    unfold G0 row
    blk_point [iblk, V, idx t]
  · change ¬ t.val * 176 + r.val < 704 at k
    unfold G1 row
    blk_point [iblk, V, idx t]

/-- The tiles' rows in the result arrays. -/
theorem emb (t : Fin cfg0.N) (r : Fin 176) (j : Fin 1024) : (win0_5.blk t).view.emb (ix2 r j) = ix2 (row t r) j
    ∧ (win0_6.blk t).view.emb (ix2 r j) = ix2 (row t r) j ∧ (win0_7.blk t).view.emb (ix2 r j) = ix2 (row t r) j
    ∧ (win0_8.blk t).view.emb (ix2 r j) = ix2 (row t r) j := by
  unfold row
  refine ⟨?_, ?_, ?_, ?_⟩ <;> blk_ext [idx t]

/-- What a grid point writes: the step at its rows. -/
theorem written (t : Fin cfg0.N) (r : Fin 176) (j : Fin 1024) :
    k0_pay1 (k0_pay5 (grid0.coords t) (iblk m c 3 t) (iblk m c 4 t) (iblk m c 1 t) (iblk m c 2 t)) (k0_pay6 (iblk m c 0 t)) (ix2 r j)
        = updateV (W m c) (meanV (G m c) (M m c)) (squareV (G m c) (Q m c)) (ix2 (row t r) j)
    ∧ k0_pay3 (grid0.coords t) (iblk m c 3 t) (iblk m c 4 t) (iblk m c 1 t) (ix2 r j) = meanV (G m c) (M m c) (ix2 (row t r) j)
    ∧ k0_pay4 (grid0.coords t) (iblk m c 3 t) (iblk m c 4 t) (iblk m c 2 t) (ix2 r j) = squareV (G m c) (Q m c) (ix2 (row t r) j) :=
  step (rd m c t r j).1 (rd_grad m c t r j) (rd m c t r j).2.1 (rd m c t r j).2.2 rfl rfl rfl

/-- The updates. -/
theorem update_eq : (dats m 0 c).arrAt 5 cfg0.N = updateV (W m c) (meanV (G m c) (M m c)) (squareV (G m c) (Q m c)) := by
  refine (dats m 0 c).arrAt_eq_of_covers 5 _ (by decide +kernel) fun t hf y => ?_
  blk_simp
  rw [after0_5]
  change S176x1024.Idx at y
  idx_vars y
  rw [(emb t y0 y1).1]
  frame_out
  exact (written m c t y0 y1).1

/-- The new first moments. -/
theorem mean_eq : (dats m 0 c).arrAt 6 cfg0.N = meanV (G m c) (M m c) := by
  refine (dats m 0 c).arrAt_eq_of_covers 6 _ (by decide +kernel) fun t hf y => ?_
  blk_simp
  rw [after0_6]
  change S176x1024.Idx at y
  idx_vars y
  rw [(emb t y0 y1).2.1]
  frame_out
  exact (written m c t y0 y1).2.1

/-- The new second moments. -/
theorem square_eq : (dats m 0 c).arrAt 7 cfg0.N = squareV (G m c) (Q m c) := by
  refine (dats m 0 c).arrAt_eq_of_covers 7 _ (by decide +kernel) fun t hf y => ?_
  blk_simp
  rw [after0_7]
  change S176x1024.Idx at y
  idx_vars y
  rw [(emb t y0 y1).2.2.1]
  frame_out
  exact (written m c t y0 y1).2.2

/-- The gradients. -/
theorem grad_eq : (dats m 0 c).arrAt 8 cfg0.N = G m c := by
  refine (dats m 0 c).arrAt_eq_of_covers 8 _ (by decide +kernel) fun t hf y => ?_
  blk_simp
  rw [after0_8]
  change S176x1024.Idx at y
  idx_vars y
  rw [(emb t y0 y1).2.2.2]
  frame_out
  exact rd_grad m c t y0 y1

/-- The reference's concatenation. -/
theorem concatenate_eq (g0 g1 : FVec Ideal S704x1024 .f32) : concatenate S1408x1024 0 [⟨S704x1024, g0⟩, ⟨S704x1024, g1⟩]
    Cert.Reference23Ideal.Gen.concatenates_S704x1024_S704x1024_S1408x1024_d0 = joined rfl g0 g1 := by
  funext y
  idx_vars y
  pointwise [joined]

/-- Equal gradients, joined, are equal. -/
theorem joined_agree {g0 g1 : FVec Ideal S704x1024 .f32} (h0 : g0 = m (c.tc.loc main_arg1)) (h1 : g1 = m (c.tc.loc main_arg2)) :
    joined rfl g0 g1 = G m c := congrArg₂ (joined rfl) h0 h1

end

/-- Whenever kernel and reference both run, their results agree. -/
theorem algebraic : Cert.algebraic_Kernel23Ideal_Reference23Ideal := by
  pair_intro
  · run_from Cert.Kernel23Ideal.Value.run_blocks m g
  · run_from Cert.Reference23Ideal.Value.run m' g'
    all_goals rw [concatenate_eq, joined_agree m c (hagree c).2.1 (hagree c).2.2.1]
    · exact (update_host _ _ _ _ _).trans (update_eq m c).symm
    · exact (mean_host _ _ _).trans (mean_eq m c).symm
    · exact (square_host _ _ _).trans (square_eq m c).symm
    · exact (grad_eq m c).symm

end Cert.Adam.Down

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.Premix.FirstClaim
public import proofs.«01_k».proof.Proof.Premix.SecondClaim
public import proofs.«01_k».proof.Proof.Conv.Claim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Weight.InClaim
public import proofs.«01_k».proof.Proof.Weight.UpClaim
public import proofs.«01_k».proof.Proof.Weight.QueryClaim
public import proofs.«01_k».proof.Proof.Weight.DownClaim
public import proofs.«01_k».proof.Proof.Weight.SquareClaim
public import proofs.«01_k».proof.Proof.Forward.InClaim
public import proofs.«01_k».proof.Proof.Forward.DownClaim
public import proofs.«01_k».proof.Proof.Forward.OutClaim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Forward.UpClaim
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Adam.Tensors
public import proofs.«01_k».proof.Proof.Quiet
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Adam.Up
public import proofs.«01_k».proof.Proof.Adam.Down
public import Idealize.ShloMosaic.Adequacy
public import Idealize.ShloMosaic.Init
public import proofs.«01_k».proof.Proof.Gen.Reference2Ideal.Run
public import proofs.«01_k».proof.Proof.Gen.ReferenceIdeal.Run
public import proofs.«01_k».proof.Proof.Gen.Kernel2Ideal.Value
public import proofs.«01_k».proof.Proof.Gen.KernelIdeal.Value

@[expose] public section

noncomputable section

namespace Cert.Proof

open Idealize.ShloMosaic Idealize.SL.Sem

/-- The reference of `Kernel` runs, keeps its arguments and leaves every semaphore at zero. -/
theorem frame_Reference : Cert.quiescent_ReferenceIdeal := fun m ρ _ =>
  quiet (by decide) (fun _ _ h => h.2.2.2) (Cert.ReferenceIdeal.Value.run (F := Ideal) m ρ)

/-- The reference of `Kernel2` runs, keeps its arguments and leaves every semaphore at zero. -/
theorem frame_Reference2 : Cert.quiescent_Reference2Ideal := fun m ρ _ =>
  quiet (by decide) (fun _ _ h => h.2.2.2.2.2) (Cert.Reference2Ideal.Value.run (F := Ideal) m ρ)

/-- The reference of `Kernel3` runs, keeps its arguments and leaves every semaphore at zero. -/
theorem frame_Reference3 : Cert.quiescent_Reference3Ideal := fun m ρ _ =>
  quiet (by decide) (fun _ _ h => h.2.2) (Cert.Reference3Ideal.Value.run (F := Ideal) m ρ)

/-- The reference of `Kernel4` runs, keeps its arguments and leaves every semaphore at zero. -/
theorem frame_Reference4 : Cert.quiescent_Reference4Ideal := fun m ρ _ =>
  quiet (by decide) (fun _ _ h => h.2) (Cert.Reference4Ideal.Value.run (F := Ideal) m ρ)

/-- The reference of `Kernel5` runs, keeps its arguments and leaves every semaphore at zero. -/
theorem frame_Reference5 : Cert.quiescent_Reference5Ideal := fun m ρ _ =>
  quiet (by decide) (fun _ _ h => h.2) (Cert.Reference5Ideal.Value.run (F := Ideal) m ρ)

/-- The reference of `Kernel6` runs, keeps its arguments and leaves every semaphore at zero. -/
theorem frame_Reference6 : Cert.quiescent_Reference6Ideal := fun m ρ _ =>
  quiet (by decide) (fun _ _ h => h.2) (Cert.Reference6Ideal.Value.run (F := Ideal) m ρ)

/-- The reference of `Kernel7` runs, keeps its arguments and leaves every semaphore at zero. -/
theorem frame_Reference7 : Cert.quiescent_Reference7Ideal := fun m ρ _ =>
  quiet (by decide) (fun _ _ h => h.2) (Cert.Reference7Ideal.Value.run (F := Ideal) m ρ)

/-- The reference of `Kernel8` runs, keeps its arguments and leaves every semaphore at zero. -/
theorem frame_Reference8 : Cert.quiescent_Reference8Ideal := fun m ρ _ =>
  quiet (by decide) (fun _ _ h => h.2) (Cert.Reference8Ideal.Value.run (F := Ideal) m ρ)

/-- The reference of `Kernel10` runs, keeps its arguments and leaves every semaphore at zero. -/
theorem frame_Reference10 : Cert.quiescent_Reference10Ideal := fun m ρ _ =>
  quiet (by decide) (fun _ _ h => h.2.2) (Cert.Reference10Ideal.Value.run (F := Ideal) m ρ)

/-- The reference of `Kernel11` runs, keeps its arguments and leaves every semaphore at zero. -/
theorem frame_Reference11 : Cert.quiescent_Reference11Ideal := fun m ρ _ =>
  quiet (by decide) (fun _ _ h => h.2.2.2.2) (Cert.Reference11Ideal.Value.run (F := Ideal) m ρ)

/-- The reference of `Kernel12` runs, keeps its arguments and leaves every semaphore at zero. -/
theorem frame_Reference12 : Cert.quiescent_Reference12Ideal := fun m ρ _ =>
  quiet (by decide) (fun _ _ h => h.2.2.2) (Cert.Reference12Ideal.Value.run (F := Ideal) m ρ)

/-- The reference of `Kernel9` runs, keeps its arguments and leaves every semaphore at zero. -/
theorem frame_Reference9 : Cert.quiescent_Reference9Ideal := fun m ρ _ =>
  quiet (by decide) (fun _ _ h => h.2.2.2) (Cert.Reference9Ideal.Value.run (F := Ideal) m ρ)

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel9.Gen.facts, Cert.Kernel9Ideal.Gen.facts, Cert.Reference9Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite3.Gen.facts,
  fun m ρ _ => Cert.Kernel.Gen.frame m ρ, fun m ρ _ => Cert.KernelIdeal.Gen.frame m ρ, frame_Reference,
  fun m ρ _ => Cert.Kernel2.Gen.frame m ρ, fun m ρ _ => Cert.Kernel2Ideal.Gen.frame m ρ, frame_Reference2,
  fun m ρ _ => Cert.Kernel3.Gen.frame m ρ, fun m ρ _ => Cert.Kernel3Ideal.Gen.frame m ρ,
  fun m ρ _ => Cert.Kernel3Ideal.Gen.frame m ρ, frame_Reference3,
  fun m ρ _ => frame_Reference3 m ρ trivial,
  fun m ρ _ => Cert.Kernel4.Gen.frame m ρ, fun m ρ _ => Cert.Kernel4Ideal.Gen.frame m ρ, frame_Reference4,
  fun m ρ _ => Cert.Kernel5.Gen.frame m ρ, fun m ρ _ => Cert.Kernel5Ideal.Gen.frame m ρ, frame_Reference5,
  fun m ρ _ => Cert.Kernel6.Gen.frame m ρ, fun m ρ _ => Cert.Kernel6Ideal.Gen.frame m ρ, frame_Reference6,
  fun m ρ _ => Cert.Kernel7.Gen.frame m ρ, fun m ρ _ => Cert.Kernel7Ideal.Gen.frame m ρ, frame_Reference7,
  fun m ρ _ => Cert.Kernel8.Gen.frame m ρ, fun m ρ _ => Cert.Kernel8Ideal.Gen.frame m ρ, frame_Reference8,
  fun m ρ _ => Cert.Kernel10.Gen.frame m ρ, fun m ρ _ => Cert.Kernel10Ideal.Gen.frame m ρ, frame_Reference10,
  fun m ρ _ => Cert.Kernel11.Gen.frame m ρ, fun m ρ _ => Cert.Kernel11Ideal.Gen.frame m ρ, frame_Reference11,
  fun m ρ _ => Cert.Kernel12.Gen.frame m ρ, fun m ρ _ => Cert.Kernel12Ideal.Gen.frame m ρ, frame_Reference12,
  fun m ρ _ => Cert.Kernel9.Gen.frame m ρ, fun m ρ _ => Cert.Kernel9Ideal.Gen.frame m ρ, frame_Reference9,
  fun m ρ _ => Cert.Kernel17.Gen.frame m ρ, fun m ρ _ => Cert.Kernel17Ideal.Gen.frame m ρ,
  fun m ρ _ => quiet (by decide) (fun _ _ h => h.2.2.2) (Cert.Reference17Ideal.Value.run (F := Ideal) m ρ),
  fun m ρ _ => Cert.Kernel18.Gen.frame m ρ, fun m ρ _ => Cert.Kernel18Ideal.Gen.frame m ρ,
  fun m ρ _ => quiet (by decide) (fun _ _ h => h.2.2.2) (Cert.Reference18Ideal.Value.run (F := Ideal) m ρ),
  fun m ρ _ => Cert.Kernel19.Gen.frame m ρ, fun m ρ _ => Cert.Kernel19Ideal.Gen.frame m ρ,
  fun m ρ _ => quiet (by decide) (fun _ _ h => h.2.2.2) (Cert.Reference19Ideal.Value.run (F := Ideal) m ρ),
  fun m ρ _ => Cert.Kernel20.Gen.frame m ρ, fun m ρ _ => Cert.Kernel20Ideal.Gen.frame m ρ,
  fun m ρ _ => quiet (by decide) (fun _ _ h => h.2.2.2) (Cert.Reference20Ideal.Value.run (F := Ideal) m ρ),
  fun m ρ _ => Cert.Kernel21.Gen.frame m ρ, fun m ρ _ => Cert.Kernel21Ideal.Gen.frame m ρ,
  fun m ρ _ => quiet (by decide) (fun _ _ h => h.2.2.2) (Cert.Reference21Ideal.Value.run (F := Ideal) m ρ),
  fun m ρ _ => Cert.Kernel24.Gen.frame m ρ, fun m ρ _ => Cert.Kernel24Ideal.Gen.frame m ρ,
  fun m ρ _ => quiet (by decide) (fun _ _ h => h.2.2.2) (Cert.Reference24Ideal.Value.run (F := Ideal) m ρ),
  fun m ρ _ => Cert.Kernel25.Gen.frame m ρ, fun m ρ _ => Cert.Kernel25Ideal.Gen.frame m ρ,
  fun m ρ _ => quiet (by decide) (fun _ _ h => h.2.2.2) (Cert.Reference25Ideal.Value.run (F := Ideal) m ρ),
  fun m ρ _ => Cert.Kernel26.Gen.frame m ρ, fun m ρ _ => Cert.Kernel26Ideal.Gen.frame m ρ,
  fun m ρ _ => quiet (by decide) (fun _ _ h => h.2.2.2) (Cert.Reference26Ideal.Value.run (F := Ideal) m ρ),
  fun m ρ _ => Cert.Kernel27.Gen.frame m ρ, fun m ρ _ => Cert.Kernel27Ideal.Gen.frame m ρ,
  fun m ρ _ => quiet (by decide) (fun _ _ h => h.2.2.2) (Cert.Reference27Ideal.Value.run (F := Ideal) m ρ),
  fun m ρ _ => Cert.Kernel28.Gen.frame m ρ, fun m ρ _ => Cert.Kernel28Ideal.Gen.frame m ρ,
  fun m ρ _ => quiet (by decide) (fun _ _ h => h.2.2.2) (Cert.Reference28Ideal.Value.run (F := Ideal) m ρ),
  fun m ρ _ => Cert.Kernel29.Gen.frame m ρ, fun m ρ _ => Cert.Kernel29Ideal.Gen.frame m ρ,
  fun m ρ _ => quiet (by decide) (fun _ _ h => h.2.2.2) (Cert.Reference29Ideal.Value.run (F := Ideal) m ρ),
  fun m ρ _ => Cert.Kernel30.Gen.frame m ρ, fun m ρ _ => Cert.Kernel30Ideal.Gen.frame m ρ,
  fun m ρ _ => quiet (by decide) (fun _ _ h => h.2.2.2) (Cert.Reference30Ideal.Value.run (F := Ideal) m ρ),
  fun m ρ _ => Cert.Kernel22.Gen.frame m ρ, fun m ρ _ => Cert.Kernel22Ideal.Gen.frame m ρ,
  fun m ρ _ => quiet (by decide) (fun _ _ h => h.2.2.2.2) (Cert.Reference22Ideal.Value.run (F := Ideal) m ρ),
  fun m ρ _ => Cert.Kernel23.Gen.frame m ρ, fun m ρ _ => Cert.Kernel23Ideal.Gen.frame m ρ,
  fun m ρ _ => quiet (by decide) (fun _ _ h => h.2.2.2.2) (Cert.Reference23Ideal.Value.run (F := Ideal) m ρ),
  trivial, Cert.Premix.First.algebraic,
  trivial, Cert.Premix.Second.algebraic,
  trivial, Cert.Conv.algebraic,
  trivial, Cert.Weight.In.algebraic,
  trivial, Cert.Weight.Up.algebraic,
  trivial, Cert.Weight.Query.algebraic,
  trivial, Cert.Weight.Down.algebraic,
  trivial, Cert.Weight.Square.algebraic,
  trivial, Cert.Forward.In.algebraic,
  trivial, Cert.Forward.Down.algebraic,
  trivial, Cert.Forward.Out.algebraic,
  trivial, Cert.Forward.Up.algebraic,
  trivial, Cert.Adam.input,
  trivial, Cert.Adam.output,
  trivial, Cert.Adam.query,
  trivial, Cert.Adam.keys,
  trivial, Cert.Adam.modulation,
  trivial, Cert.Adam.modulation_bias,
  trivial, Cert.Adam.keys_bias,
  trivial, Cert.Adam.lower_bounds,
  trivial, Cert.Adam.gain,
  trivial, Cert.Adam.forget_bias,
  trivial, Cert.Adam.taps,
  trivial, Cert.Adam.conv_bias,
  trivial, Cert.Adam.Up.algebraic,
  trivial, Cert.Adam.Down.algebraic⟩

end Cert.Proof

end
